-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_weights [hPre_finite_weights : Cert.Pre_finite_weights.Facts] (m : (ℓ : Loc Cert.KernelIdeal.nD Cert.KernelIdeal.τ Cert.KernelIdeal.sig) → Buf (Elt Ideal) ℓ) : Prop :=
  ∀ c : Dev Cert.KernelIdeal.nD,
    (Cert.Pre_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_weights [hPre_finite_weights : Cert.Pre_finite_weights.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_weights [hKernelIdeal : Cert.KernelIdeal.Facts] [hPre_finite_weights : Cert.Pre_finite_weights.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_weights m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_weights [hReferenceIdeal : Cert.ReferenceIdeal.Facts] [hPre_finite_weights : Cert.Pre_finite_weights.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_weights m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_finite_weights [hKernelIdeal : Cert.KernelIdeal.Facts] [hReferenceIdeal : Cert.ReferenceIdeal.Facts] [hPre_finite_weights : Cert.Pre_finite_weights.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_weights m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v38)) (v1 : (c : Dev Cert.KernelIdeal.nD) → Buf (Elt Ideal) ((c.tc : Thread Cert.KernelIdeal.nD Cert.KernelIdeal.τ).loc Cert.KernelIdeal.main_v40)) (v2 : (c : Dev Cert.KernelIdeal.nD) → Buf (Elt Ideal) ((c.tc : Thread Cert.KernelIdeal.nD Cert.KernelIdeal.τ).loc Cert.KernelIdeal.main_v42)) (v3 : (c : Dev Cert.KernelIdeal.nD) → Buf (Elt Ideal) ((c.tc : Thread Cert.KernelIdeal.nD Cert.KernelIdeal.τ).loc Cert.KernelIdeal.main_v43)) (v4 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_v40) = v1 c
          ∧ r.2.mem ((c.tc : Thread Cert.KernelIdeal.nD Cert.KernelIdeal.τ).loc Cert.KernelIdeal.main_v42) = v2 c
          ∧ r.2.mem ((c.tc : Thread Cert.KernelIdeal.nD Cert.KernelIdeal.τ).loc Cert.KernelIdeal.main_v43) = v3 c
          ∧ r.2.mem ((c.tc : Thread Cert.KernelIdeal.nD Cert.KernelIdeal.τ).loc Cert.KernelIdeal.main_v44) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v141) = v0 c
          ∧ r.2.mem ((c.tc : Thread Cert.ReferenceIdeal.nD Cert.ReferenceIdeal.τ).loc Cert.ReferenceIdeal.main_v142) = v1 c
          ∧ r.2.mem ((c.tc : Thread Cert.ReferenceIdeal.nD Cert.ReferenceIdeal.τ).loc Cert.ReferenceIdeal.main_v143) = v2 c
          ∧ r.2.mem ((c.tc : Thread Cert.ReferenceIdeal.nD Cert.ReferenceIdeal.τ).loc Cert.ReferenceIdeal.main_v42_0) = v3 c
          ∧ r.2.mem ((c.tc : Thread Cert.ReferenceIdeal.nD Cert.ReferenceIdeal.τ).loc Cert.ReferenceIdeal.main_v35) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_weights : Cert.Pre_finite_weights.Facts),
    quiescent_Kernel (hKernel := hKernel)
    ∧ quiescent_KernelIdeal (hKernelIdeal := hKernelIdeal)
    ∧ quiescent_KernelIdeal_pre_finite_weights (hKernelIdeal := hKernelIdeal) (hPre_finite_weights := hPre_finite_weights)
    ∧ quiescent_ReferenceIdeal (hReferenceIdeal := hReferenceIdeal)
    ∧ quiescent_ReferenceIdeal_pre_finite_weights (hReferenceIdeal := hReferenceIdeal) (hPre_finite_weights := hPre_finite_weights)
    ∧ preserves_Kernel_KernelIdeal
    ∧ algebraic_KernelIdeal_ReferenceIdeal_pre_finite_weights (hKernelIdeal := hKernelIdeal) (hReferenceIdeal := hReferenceIdeal) (hPre_finite_weights := hPre_finite_weights)
-- ==== Pre_finite_weights.lean ====
abbrev S1x6144x8192 : Shape := ⟨3, ![1, 6144, 8192]⟩
abbrev S8192 : Shape := ⟨1, ![8192]⟩
abbrev S8192x24576 : Shape := ⟨2, ![8192, 24576]⟩
abbrev S64x192 : Shape := ⟨2, ![64, 192]⟩
abbrev S1 : Shape := ⟨1, ![1]⟩
abbrev S128 : Shape := ⟨1, ![128]⟩
abbrev S_ : Shape := ⟨0, ![]⟩

class Facts : Prop where
  bitsLt_bf16_f32 : FTy.bits .bf16 < FTy.bits .f32
  bcast_S_S8192 : S_.BroadcastsInDim S8192 (![] : Fin 0 → Fin S8192.rank)

variable [Facts]

def fn {F : FTy → Type} [FloatOps F] (main_arg0 : FVec F S1x6144x8192 .bf16) (main_arg1 : FVec F S8192 .bf16) (main_arg2 : FVec F S8192x24576 .fp8e4m3) (main_arg3 : FVec F S64x192 .f32) (main_arg4 : IVec S1 32) (main_arg5 : FVec F S128 .bf16) (main_arg6 : FVec F S128 .bf16) : IVec S8192 1 :=
  let main_v0 : FVec F S8192 .f32 := (extf .f32 · bitsLt_bf16_f32) main_arg1
  let main_v1 : FVec F S8192 .f32 := Host.absf main_v0
  let main_cst : FVec F S_ .f32 := constant S_ .f32 0x7F7F0000#32
  let main_v2 : FVec F S8192 .f32 := broadcastInDim S8192 ![] bcast_S_S8192 main_cst
  let main_v3 : IVec S8192 1 := cmpf .ole main_v1 main_v2
  main_v3
-- ==== Kernel.lean ====
abbrev S1x6144x8192 : Shape := ⟨3, ![1, 6144, 8192]⟩
abbrev S8192 : Shape := ⟨1, ![8192]⟩
abbrev S8192x24576 : Shape := ⟨2, ![8192, 24576]⟩
abbrev S64x192 : Shape := ⟨2, ![64, 192]⟩
abbrev S1 : Shape := ⟨1, ![1]⟩
abbrev S128 : Shape := ⟨1, ![128]⟩
abbrev S6144x8192 : Shape := ⟨2, ![6144, 8192]⟩
abbrev S1x8192 : Shape := ⟨2, ![1, 8192]⟩
abbrev S6144x64 : Shape := ⟨2, ![6144, 64]⟩
abbrev S128x8192 : Shape := ⟨2, ![128, 8192]⟩
abbrev S128x64 : Shape := ⟨2, ![128, 64]⟩
abbrev S128x1 : Shape := ⟨2, ![128, 1]⟩
abbrev S128x128 : Shape := ⟨2, ![128, 128]⟩
abbrev S1x128 : Shape := ⟨2, ![1, 128]⟩
abbrev S128x255 : Shape := ⟨2, ![128, 255]⟩
abbrev S1x1 : Shape := ⟨2, ![1, 1]⟩
abbrev S6144 : Shape := ⟨1, ![6144]⟩
abbrev S1x6144 : Shape := ⟨2, ![1, 6144]⟩
abbrev S64 : Shape := ⟨1, ![64]⟩
abbrev S_ : Shape := ⟨0, ![]⟩
abbrev S6144x1 : Shape := ⟨2, ![6144, 1]⟩
abbrev S1x64 : Shape := ⟨2, ![1, 64]⟩
abbrev S6144x128 : Shape := ⟨2, ![6144, 128]⟩
abbrev S3x128 : Shape := ⟨2, ![3, 128]⟩
abbrev S3x1x128 : Shape := ⟨3, ![3, 1, 128]⟩
abbrev S6144x24576 : Shape := ⟨2, ![6144, 24576]⟩
abbrev S512x8192 : Shape := ⟨2, ![512, 8192]⟩
abbrev S8192x512 : Shape := ⟨2, ![8192, 512]⟩
abbrev S512x128 : Shape := ⟨2, ![512, 128]⟩
abbrev S1x1x128 : Shape := ⟨3, ![1, 1, 128]⟩
abbrev S512x512 : Shape := ⟨2, ![512, 512]⟩
abbrev S512 : Shape := ⟨1, ![512]⟩
abbrev S512x1 : Shape := ⟨2, ![512, 1]⟩
abbrev S1x6144x64x128 : Shape := ⟨4, ![1, 6144, 64, 128]⟩
abbrev S1x6144x64 : Shape := ⟨3, ![1, 6144, 64]⟩

abbrev nBuf : Space → Nat
  | .hbm => 58
  | .vmem => 22
  | .smem => 1
  | _ => 0

abbrev bufTy : (tb : Table) → Fin (tcTables nBuf tb) → BufTy
  | .hbm, ⟨0, _⟩ => ⟨S1x6144x8192, .bf16⟩
  | .hbm, ⟨1, _⟩ => ⟨S8192, .bf16⟩
  | .hbm, ⟨2, _⟩ => ⟨S8192x24576, .fp8e4m3⟩
  | .hbm, ⟨3, _⟩ => ⟨S64x192, .f32⟩
  | .hbm, ⟨4, _⟩ => ⟨S1, .i32⟩
  | .hbm, ⟨5, _⟩ => ⟨S128, .bf16⟩
  | .hbm, ⟨6, _⟩ => ⟨S128, .bf16⟩
  | .hbm, ⟨7, _⟩ => ⟨S6144x8192, .bf16⟩
  | .hbm, ⟨8, _⟩ => ⟨S8192, .f32⟩
  | .hbm, ⟨9, _⟩ => ⟨S1x8192, .f32⟩
  | .hbm, ⟨10, _⟩ => ⟨S6144x8192, .fp8e4m3⟩
  | .hbm, ⟨11, _⟩ => ⟨S6144x64, .f32⟩
  | .hbm, ⟨12, _⟩ => ⟨S6144x8192, .bf16⟩
  | .hbm, ⟨13, _⟩ => ⟨S1x1, .i32⟩
  | .hbm, ⟨14, _⟩ => ⟨S6144, .i32⟩
  | .hbm, ⟨15, _⟩ => ⟨S1x6144, .i32⟩
  | .hbm, ⟨16, _⟩ => ⟨S1x6144, .i32⟩
  | .hbm, ⟨17, _⟩ => ⟨S1x6144, .i32⟩
  | .hbm, ⟨18, _⟩ => ⟨S1x6144, .f32⟩
  | .hbm, ⟨19, _⟩ => ⟨S64, .f32⟩
  | .hbm, ⟨20, _⟩ => ⟨S_, .f32⟩
  | .hbm, ⟨21, _⟩ => ⟨S64, .f32⟩
  | .hbm, ⟨22, _⟩ => ⟨S64, .f32⟩
  | .hbm, ⟨23, _⟩ => ⟨S_, .f32⟩
  | .hbm, ⟨24, _⟩ => ⟨S64, .f32⟩
  | .hbm, ⟨25, _⟩ => ⟨S64, .f32⟩
  | .hbm, ⟨26, _⟩ => ⟨S64, .f32⟩
  | .hbm, ⟨27, _⟩ => ⟨S_, .f32⟩
  | .hbm, ⟨28, _⟩ => ⟨S64, .f32⟩
  | .hbm, ⟨29, _⟩ => ⟨S64, .f32⟩
  | .hbm, ⟨30, _⟩ => ⟨S_, .f32⟩
  | .hbm, ⟨31, _⟩ => ⟨S64, .f32⟩
  | .hbm, ⟨32, _⟩ => ⟨S64, .f32⟩
  | .hbm, ⟨33, _⟩ => ⟨S6144x1, .f32⟩
  | .hbm, ⟨34, _⟩ => ⟨S1x64, .f32⟩
  | .hbm, ⟨35, _⟩ => ⟨S6144x64, .f32⟩
  | .hbm, ⟨36, _⟩ => ⟨S6144x64, .f32⟩
  | .hbm, ⟨37, _⟩ => ⟨S6144x64, .f32⟩
  | .hbm, ⟨38, _⟩ => ⟨S6144x64, .f32⟩
  | .hbm, ⟨39, _⟩ => ⟨S6144x64, .f32⟩
  | .hbm, ⟨40, _⟩ => ⟨S6144x128, .f32⟩
  | .hbm, ⟨41, _⟩ => ⟨S6144x64, .f32⟩
  | .hbm, ⟨42, _⟩ => ⟨S6144x128, .f32⟩
  | .hbm, ⟨43, _⟩ => ⟨S1x128, .bf16⟩
  | .hbm, ⟨44, _⟩ => ⟨S1x128, .bf16⟩
  | .hbm, ⟨45, _⟩ => ⟨S1x128, .bf16⟩
  | .hbm, ⟨46, _⟩ => ⟨S3x128, .bf16⟩
  | .hbm, ⟨47, _⟩ => ⟨S3x128, .f32⟩
  | .hbm, ⟨48, _⟩ => ⟨S3x1x128, .f32⟩
  | .hbm, ⟨49, _⟩ => ⟨S6144x24576, .bf16⟩
  | .hbm, ⟨50, _⟩ => ⟨S6144x8192, .bf16⟩
  | .hbm, ⟨51, _⟩ => ⟨S1x6144x64x128, .bf16⟩
  | .hbm, ⟨52, _⟩ => ⟨S6144x8192, .bf16⟩
  | .hbm, ⟨53, _⟩ => ⟨S1x6144x64x128, .bf16⟩
  | .hbm, ⟨54, _⟩ => ⟨S6144x8192, .bf16⟩
  | .hbm, ⟨55, _⟩ => ⟨S1x6144x64x128, .bf16⟩
  | .hbm, ⟨56, _⟩ => ⟨S1x6144x8192, .fp8e4m3⟩
  | .hbm, ⟨57, _⟩ => ⟨S1x6144x64, .f32⟩
  | .local _ .vmem, ⟨0, _⟩ => ⟨S128x8192, .bf16⟩
  | .local _ .vmem, ⟨1, _⟩ => ⟨S128x8192, .bf16⟩
  | .local _ .vmem, ⟨2, _⟩ => ⟨S1x8192, .f32⟩
  | .local _ .vmem, ⟨3, _⟩ => ⟨S128x8192, .fp8e4m3⟩
  | .local _ .vmem, ⟨4, _⟩ => ⟨S128x8192, .fp8e4m3⟩
  | .local _ .vmem, ⟨5, _⟩ => ⟨S128x64, .f32⟩
  | .local _ .vmem, ⟨6, _⟩ => ⟨S128x64, .f32⟩
  | .local _ .vmem, ⟨7, _⟩ => ⟨S128x8192, .bf16⟩
  | .local _ .vmem, ⟨8, _⟩ => ⟨S128x8192, .bf16⟩
  | .local _ .vmem, ⟨9, _⟩ => ⟨S512x8192, .bf16⟩
  | .local _ .vmem, ⟨10, _⟩ => ⟨S512x8192, .bf16⟩
  | .local _ .vmem, ⟨11, _⟩ => ⟨S8192x512, .fp8e4m3⟩
  | .local _ .vmem, ⟨12, _⟩ => ⟨S8192x512, .fp8e4m3⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S1x1x128, .f32⟩
  | .local _ .vmem, ⟨18, _⟩ => ⟨S1x1x128, .f32⟩
  | .local _ .vmem, ⟨19, _⟩ => ⟨S512x512, .bf16⟩
  | .local _ .vmem, ⟨20, _⟩ => ⟨S512x512, .bf16⟩
  | .local _ .vmem, ⟨21, _⟩ => ⟨S8192x512, .bf16⟩
  | .local _ .smem, ⟨0, _⟩ => ⟨S64x192, .f32⟩
  | _, _ => ⟨S1x6144x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg5_1 : Ref sig .tc := ⟨.vmem, 18, rfl⟩
abbrev cc1_stg6_0 : Ref sig .tc := ⟨.vmem, 19, rfl⟩
abbrev cc1_stg6_1 : Ref sig .tc := ⟨.vmem, 20, rfl⟩
abbrev cc1_scratch0 : Ref sig .tc := ⟨.vmem, 21, rfl⟩
abbrev cc1_stg0_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x8192 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x8192 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![12, 48], ![false, false]⟩

@[reducible] def k1_t1_loop : Scf.Loop 32 :=
  let c0_i32 : BitVec 32 := 0#32
  let c64_i32 : BitVec 32 := 64#32
  let v0 : BitVec 32 := Scalar.addi c0_i32 c64_i32
  let c1_i32 : BitVec 32 := 1#32
  ⟨c0_i32, v0, c1_i32⟩
def k1_off1 (i : grid1.Coords) (k1_t1 : Fin k1_t1_loop.trips) (c0_i32_45 : BitVec 32) : Fin 2 → Nat :=
  let c0_i32 : BitVec 32 := 0#32
  let c1_i32 : BitVec 32 := 1#32
  let arg10 : BitVec 32 := Scf.iv c0_i32 c1_i32 k1_t1
  let v107 : Index := Scalar.indexCast arg10
  let arg1 : BitVec 32 := BitVec.ofNat 32 (i 1).val
  let c4_i32_44 : BitVec 32 := 4#32
  let v105 : BitVec 32 := Scalar.muli arg1 c4_i32_44
  let v106 : BitVec 32 := Scalar.addi v105 c0_i32_45
  let v108 : Index := Scalar.indexCast v106
  ![v107.toNat, v108.toNat]
def k1_off2 (k1_t1 : Fin k1_t1_loop.trips) : Fin 2 → Nat :=
  let c0_i32 : BitVec 32 := 0#32
  let c1_i32 : BitVec 32 := 1#32
  let arg10 : BitVec 32 := Scf.iv c0_i32 c1_i32 k1_t1
  let c128_i32_46 : BitVec 32 := 128#32
  let v110 : BitVec 32 := Scalar.muli arg10 c128_i32_46
  let v111 : Index := Scalar.indexCast v110
  let c0_47 : Index := 0#32
  ![v111.toNat, 0]
def k1_off3 (k1_t1 : Fin k1_t1_loop.trips) : Fin 2 → Nat :=
  let c0_i32 : BitVec 32 := 0#32
  let c1_i32 : BitVec 32 := 1#32
  let arg10 : BitVec 32 := Scf.iv c0_i32 c1_i32 k1_t1
  let c128_i32_51 : BitVec 32 := 128#32
  let v126 : BitVec 32 := Scalar.muli arg10 c128_i32_51
  let v127 : Index := Scalar.indexCast v126
  let c128_52 : Index := 128#32
  ![v127.toNat, 128]
def k1_off4 (k1_t1 : Fin k1_t1_loop.trips) : Fin 2 → Nat :=
  let c0_i32 : BitVec 32 := 0#32
  let c1_i32 : BitVec 32 := 1#32
  let arg10 : BitVec 32 := Scf.iv c0_i32 c1_i32 k1_t1
  let c128_i32_55 : BitVec 32 := 128#32
  let v142 : BitVec 32 := Scalar.muli arg10 c128_i32_55
  let v143 : Index := Scalar.indexCast v142
  let c256_56 : Index := 256#32
  ![v143.toNat, 256]
def k1_off5 (k1_t1 : Fin k1_t1_loop.trips) : Fin 2 → Nat :=
  let c0_i32 : BitVec 32 := 0#32
  let c1_i32 : BitVec 32 := 1#32
  let arg10 : BitVec 32 := Scf.iv c0_i32 c1_i32 k1_t1
  let c128_i32_59 : BitVec 32 := 128#32
  let v158 : BitVec 32 := Scalar.muli arg10 c128_i32_59
  let v159 : Index := Scalar.indexCast v158
  let c384_60 : Index := 384#32
  ![v159.toNat, 384]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg1 c16_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg1 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .smem S64x192 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S512x8192 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S8192x512 .fp8e4m3 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S512x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S512x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x1x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S512x512 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]
-- ==== ReferenceIdeal.lean ====
abbrev S1x6144x8192 : Shape := ⟨3, ![1, 6144, 8192]⟩
abbrev S8192 : Shape := ⟨1, ![8192]⟩
abbrev S8192x24576 : Shape := ⟨2, ![8192, 24576]⟩
abbrev S64x192 : Shape := ⟨2, ![64, 192]⟩
abbrev S1 : Shape := ⟨1, ![1]⟩
abbrev S128 : Shape := ⟨1, ![128]⟩
abbrev S_ : Shape := ⟨0, ![]⟩
abbrev S1x6144 : Shape := ⟨2, ![1, 6144]⟩
abbrev S1x6144x1 : Shape := ⟨3, ![1, 6144, 1]⟩
abbrev S1x1x8192 : Shape := ⟨3, ![1, 1, 8192]⟩
abbrev S1x6144x64x128 : Shape := ⟨4, ![1, 6144, 64, 128]⟩
abbrev S1x6144x64 : Shape := ⟨3, ![1, 6144, 64]⟩
abbrev S253 : Shape := ⟨1, ![253]⟩
abbrev S1x6144x64x1 : Shape := ⟨4, ![1, 6144, 64, 1]⟩
abbrev S1x1x1x253 : Shape := ⟨4, ![1, 1, 1, 253]⟩
abbrev S1x6144x64x253 : Shape := ⟨4, ![1, 6144, 64, 253]⟩
abbrev S64x128x192x128 : Shape := ⟨4, ![64, 128, 192, 128]⟩
abbrev S64x1x192x1 : Shape := ⟨4, ![64, 1, 192, 1]⟩
abbrev S1x6144x24576 : Shape := ⟨3, ![1, 6144, 24576]⟩
abbrev S1x1x1x128 : Shape := ⟨4, ![1, 1, 1, 128]⟩
abbrev S1x1 : Shape := ⟨2, ![1, 1]⟩
abbrev S6144 : Shape := ⟨1, ![6144]⟩
abbrev S64 : Shape := ⟨1, ![64]⟩
abbrev S1x1x64 : Shape := ⟨3, ![1, 1, 64]⟩
abbrev S1x6144x1x64 : Shape := ⟨4, ![1, 6144, 1, 64]⟩
abbrev S1x6144x64x64 : Shape := ⟨4, ![1, 6144, 64, 64]⟩

abbrev nBuf : Space → Nat
  | .hbm => 180
  | .vmem => 5
  | .smem => 0
  | _ => 0

abbrev hbmTy0_0 (i : Nat) : BufTy := match i % 128 with
  | 0 => ⟨S1x6144x8192, .bf16⟩
  | 1 => ⟨S8192, .bf16⟩
  | 2 => ⟨S8192x24576, .fp8e4m3⟩
  | 3 => ⟨S64x192, .f32⟩
  | 4 => ⟨S1, .i32⟩
  | 5 => ⟨S128, .bf16⟩
  | 6 => ⟨S128, .bf16⟩
  | 7 => ⟨S1x6144x8192, .f32⟩
  | 8 => ⟨S1x6144x8192, .f32⟩
  | 9 => ⟨S_, .f32⟩
  | 10 => ⟨S1x6144, .f32⟩
  | 11 => ⟨S1x6144x1, .f32⟩
  | 12 => ⟨S_, .f32⟩
  | 13 => ⟨S1x6144x1, .f32⟩
  | 14 => ⟨S1x6144x1, .f32⟩
  | 15 => ⟨S_, .f32⟩
  | 16 => ⟨S1x6144x1, .f32⟩
  | 17 => ⟨S1x6144x1, .f32⟩
  | 18 => ⟨S1x6144x1, .f32⟩
  | 19 => ⟨S1x6144x8192, .f32⟩
  | 20 => ⟨S1x6144x8192, .f32⟩
  | 21 => ⟨S8192, .f32⟩
  | 22 => ⟨S1x1x8192, .f32⟩
  | 23 => ⟨S1x6144x8192, .f32⟩
  | 24 => ⟨S1x6144x8192, .f32⟩
  | 25 => ⟨S1x6144x64x128, .f32⟩
  | 26 => ⟨S1x6144x64x128, .f32⟩
  | 27 => ⟨S_, .f32⟩
  | 28 => ⟨S1x6144x64, .f32⟩
  | 29 => ⟨S_, .f32⟩
  | 30 => ⟨S1x6144x64, .f32⟩
  | 31 => ⟨S1x6144x64, .f32⟩
  | 32 => ⟨S253, .i32⟩
  | 33 => ⟨S_, .i32⟩
  | 34 => ⟨S253, .i32⟩
  | 35 => ⟨S253, .i32⟩
  | 36 => ⟨S253, .f32⟩
  | 37 => ⟨S_, .f32⟩
  | 38 => ⟨S253, .f32⟩
  | 39 => ⟨S253, .f32⟩
  | 40 => ⟨S1x6144x64x1, .f32⟩
  | 41 => ⟨S1x1x1x253, .f32⟩
  | 42 => ⟨S1x6144x64x253, .f32⟩
  | 43 => ⟨S1x6144x64x253, .f32⟩
  | 44 => ⟨S1x6144x64x253, .i1⟩
  | 45 => ⟨S_, .f32⟩
  | 46 => ⟨S_, .f32⟩
  | 47 => ⟨S1x6144x64x253, .f32⟩
  | 48 => ⟨S1x6144x64x253, .f32⟩
  | 49 => ⟨S1x6144x64x253, .f32⟩
  | 50 => ⟨S_, .f32⟩
  | 51 => ⟨S1x6144x64, .f32⟩
  | 52 => ⟨S_, .f32⟩
  | 53 => ⟨S1x6144x64, .f32⟩
  | 54 => ⟨S1x6144x64, .i1⟩
  | 55 => ⟨S_, .f32⟩
  | 56 => ⟨S_, .f32⟩
  | 57 => ⟨S1x6144x64, .f32⟩
  | 58 => ⟨S1x6144x64, .f32⟩
  | 59 => ⟨S_, .f32⟩
  | 60 => ⟨S1x6144x64, .f32⟩
  | 61 => ⟨S1x6144x64, .f32⟩
  | 62 => ⟨S1x6144x64x1, .f32⟩
  | 63 => ⟨S1x6144x64x128, .f32⟩
  | 64 => ⟨S1x6144x64x128, .f32⟩
  | 65 => ⟨S1x6144x8192, .f32⟩
  | 66 => ⟨S1x6144x8192, .fp8e4m3⟩
  | 67 => ⟨S1x6144x8192, .bf16⟩
  | 68 => ⟨S8192x24576, .bf16⟩
  | 69 => ⟨S1x6144x64x128, .bf16⟩
  | 70 => ⟨S1x6144x64, .bf16⟩
  | 71 => ⟨S1x6144x64x1, .bf16⟩
  | 72 => ⟨S1x6144x64x128, .bf16⟩
  | 73 => ⟨S1x6144x64x128, .bf16⟩
  | 74 => ⟨S1x6144x8192, .bf16⟩
  | 75 => ⟨S64x128x192x128, .bf16⟩
  | 76 => ⟨S64x192, .bf16⟩
  | 77 => ⟨S64x1x192x1, .bf16⟩
  | 78 => ⟨S64x128x192x128, .bf16⟩
  | 79 => ⟨S64x128x192x128, .bf16⟩
  | 80 => ⟨S8192x24576, .bf16⟩
  | 81 => ⟨S1x6144x24576, .f32⟩
  | 82 => ⟨S1x6144x8192, .f32⟩
  | 83 => ⟨S1x6144x64x128, .f32⟩
  | 84 => ⟨S1x6144x8192, .f32⟩
  | 85 => ⟨S1x6144x64x128, .f32⟩
  | 86 => ⟨S1x6144x8192, .f32⟩
  | 87 => ⟨S1x6144x64x128, .f32⟩
  | 88 => ⟨S1x6144x64x128, .f32⟩
  | 89 => ⟨S_, .f32⟩
  | 90 => ⟨S1x6144x64, .f32⟩
  | 91 => ⟨S1x6144x64x1, .f32⟩
  | 92 => ⟨S_, .f32⟩
  | 93 => ⟨S1x6144x64x1, .f32⟩
  | 94 => ⟨S1x6144x64x1, .f32⟩
  | 95 => ⟨S_, .f32⟩
  | 96 => ⟨S1x6144x64x1, .f32⟩
  | 97 => ⟨S1x6144x64x1, .f32⟩
  | 98 => ⟨S1x6144x64x1, .f32⟩
  | 99 => ⟨S1x6144x64x128, .f32⟩
  | 100 => ⟨S1x6144x64x128, .f32⟩
  | 101 => ⟨S128, .f32⟩
  | 102 => ⟨S1x1x1x128, .f32⟩
  | 103 => ⟨S1x6144x64x128, .f32⟩
  | 104 => ⟨S1x6144x64x128, .f32⟩
  | 105 => ⟨S1x6144x64x128, .f32⟩
  | 106 => ⟨S_, .f32⟩
  | 107 => ⟨S1x6144x64, .f32⟩
  | 108 => ⟨S1x6144x64x1, .f32⟩
  | 109 => ⟨S_, .f32⟩
  | 110 => ⟨S1x6144x64x1, .f32⟩
  | 111 => ⟨S1x6144x64x1, .f32⟩
  | 112 => ⟨S_, .f32⟩
  | 113 => ⟨S1x6144x64x1, .f32⟩
  | 114 => ⟨S1x6144x64x1, .f32⟩
  | 115 => ⟨S1x6144x64x1, .f32⟩
  | 116 => ⟨S1x6144x64x128, .f32⟩
  | 117 => ⟨S1x6144x64x128, .f32⟩
  | 118 => ⟨S128, .f32⟩
  | 119 => ⟨S1x1x1x128, .f32⟩
  | 120 => ⟨S1x6144x64x128, .f32⟩
  | 121 => ⟨S1x6144x64x128, .f32⟩
  | 122 => ⟨S1x1, .i32⟩
  | 123 => ⟨S6144, .i32⟩
  | 124 => ⟨S1x6144, .i32⟩
  | 125 => ⟨S1x6144, .i32⟩
  | 126 => ⟨S1x6144, .i32⟩
  | 127 => ⟨S1x6144, .f32⟩
  | _ => ⟨S1x6144x8192, .bf16⟩

abbrev hbmTy0_1 (i : Nat) : BufTy := match i % 128 with
  | 0 => ⟨S64, .f32⟩
  | 1 => ⟨S_, .f32⟩
  | 2 => ⟨S64, .f32⟩
  | 3 => ⟨S64, .f32⟩
  | 4 => ⟨S_, .f32⟩
  | 5 => ⟨S64, .f32⟩
  | 6 => ⟨S64, .f32⟩
  | 7 => ⟨S64, .f32⟩
  | 8 => ⟨S_, .f32⟩
  | 9 => ⟨S64, .f32⟩
  | 10 => ⟨S64, .f32⟩
  | 11 => ⟨S_, .f32⟩
  | 12 => ⟨S64, .f32⟩
  | 13 => ⟨S64, .f32⟩
  | 14 => ⟨S1x6144x1, .f32⟩
  | 15 => ⟨S1x1x64, .f32⟩
  | 16 => ⟨S1x6144x64, .f32⟩
  | 17 => ⟨S1x6144x64, .f32⟩
  | 18 => ⟨S1x6144x64, .f32⟩
  | 19 => ⟨S1x6144x64, .f32⟩
  | 20 => ⟨S1x6144x1x64, .f32⟩
  | 21 => ⟨S1x6144x64, .f32⟩
  | 22 => ⟨S1x6144x1x64, .f32⟩
  | 23 => ⟨S1x6144x64x64, .f32⟩
  | 24 => ⟨S1x6144x64x64, .f32⟩
  | 25 => ⟨S1x6144x64x64, .f32⟩
  | 26 => ⟨S1x6144x64x64, .f32⟩
  | 27 => ⟨S1x6144x64x64, .f32⟩
  | 28 => ⟨S1x6144x64x64, .f32⟩
  | 29 => ⟨S1x6144x64x64, .f32⟩
  | 30 => ⟨S1x6144x64x64, .f32⟩
  | 31 => ⟨S1x6144x64x64, .f32⟩
  | 32 => ⟨S1x6144x64x64, .f32⟩
  | 33 => ⟨S1x6144x64x64, .f32⟩
  | 34 => ⟨S1x6144x64x64, .f32⟩
  | 35 => ⟨S1x6144x64x128, .f32⟩
  | 36 => ⟨S1x6144x64x64, .f32⟩
  | 37 => ⟨S1x6144x64x64, .f32⟩
  | 38 => ⟨S1x6144x64x64, .f32⟩
  | 39 => ⟨S1x6144x64x64, .f32⟩
  | 40 => ⟨S1x6144x64x64, .f32⟩
  | 41 => ⟨S1x6144x64x64, .f32⟩
  | 42 => ⟨S1x6144x64x64, .f32⟩
  | 43 => ⟨S1x6144x64x64, .f32⟩
  | 44 => ⟨S1x6144x64x64, .f32⟩
  | 45 => ⟨S1x6144x64x64, .f32⟩
  | 46 => ⟨S1x6144x64x64, .f32⟩
  | 47 => ⟨S1x6144x64x64, .f32⟩
  | 48 => ⟨S1x6144x64x128, .f32⟩
  | 49 => ⟨S1x6144x64x128, .bf16⟩
  | 50 => ⟨S1x6144x64x128, .bf16⟩
  | 51 => ⟨S1x6144x64x128, .bf16⟩
  | _ => ⟨S1x6144x8192, .bf16⟩

abbrev hbmTy (i : Nat) : BufTy := match i / 128 with
  | 0 => hbmTy0_0 i
  | 1 => hbmTy0_1 i
  | _ => ⟨S1x6144x8192, .bf16⟩

abbrev bufTy : (tb : Table) → Fin (tcTables nBuf tb) → BufTy
  | .hbm, ⟨i, _⟩ => hbmTy i
  | .local _ .vmem, ⟨0, _⟩ => ⟨S1x6144x8192, .f32⟩
  | .local _ .vmem, ⟨1, _⟩ => ⟨S8192x24576, .fp8e4m3⟩
  | .local _ .vmem, ⟨2, _⟩ => ⟨S1x6144x8192, .fp8e4m3⟩
  | .local _ .vmem, ⟨3, _⟩ => ⟨S1x6144x8192, .bf16⟩
  | .local _ .vmem, ⟨4, _⟩ => ⟨S8192x24576, .bf16⟩
  | _, _ => ⟨S1x6144x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_call0_v0 : Ref sig .tc := ⟨.hbm, 46, rfl⟩
abbrev main_call0_v1 : Ref sig .tc := ⟨.hbm, 47, rfl⟩
abbrev main_call0_v2 : Ref sig .tc := ⟨.hbm, 48, rfl⟩
abbrev main_v31 : Ref sig .tc := ⟨.hbm, 49, rfl⟩
abbrev main_cst_6 : Ref sig .tc := ⟨.hbm, 50, rfl⟩
abbrev main_v32 : Ref sig .tc := ⟨.hbm, 51, rfl⟩
abbrev main_cst_7 : Ref sig .tc := ⟨.hbm, 52, rfl⟩
abbrev main_v33 : Ref sig .tc := ⟨.hbm, 53, rfl⟩
abbrev main_v34 : Ref sig .tc := ⟨.hbm, 54, rfl⟩
abbrev main_cst_8 : Ref sig .tc := ⟨.hbm, 55, rfl⟩
abbrev main_call1_v0 : Ref sig .tc := ⟨.hbm, 56, rfl⟩
abbrev main_call1_v1 : Ref sig .tc := ⟨.hbm, 57, rfl⟩
abbrev main_v35 : Ref sig .tc := ⟨.hbm, 58, rfl⟩
abbrev main_cst_9 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42_0 : Ref sig .tc := ⟨.hbm, 66, rfl⟩
abbrev main_v42_1 : Ref sig .tc := ⟨.hbm, 67, rfl⟩
abbrev main_v42_2 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_10 : Ref sig .tc := ⟨.hbm, 89, rfl⟩
abbrev main_v63 : Ref sig .tc := ⟨.hbm, 90, rfl⟩
abbrev main_v64 : Ref sig .tc := ⟨.hbm, 91, rfl⟩
abbrev main_cst_11 : Ref sig .tc := ⟨.hbm, 92, rfl⟩
abbrev main_v65 : Ref sig .tc := ⟨.hbm, 93, rfl⟩
abbrev main_v66 : Ref sig .tc := ⟨.hbm, 94, rfl⟩
abbrev main_cst_12 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_13 : Ref sig .tc := ⟨.hbm, 106, rfl⟩
abbrev main_v77 : Ref sig .tc := ⟨.hbm, 107, rfl⟩
abbrev main_v78 : Ref sig .tc := ⟨.hbm, 108, rfl⟩
abbrev main_cst_14 : Ref sig .tc := ⟨.hbm, 109, rfl⟩
abbrev main_v79 : Ref sig .tc := ⟨.hbm, 110, rfl⟩
abbrev main_v80 : Ref sig .tc := ⟨.hbm, 111, rfl⟩
abbrev main_cst_15 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_cst_16 : Ref sig .tc := ⟨.hbm, 129, rfl⟩
abbrev main_v97 : Ref sig .tc := ⟨.hbm, 130, rfl⟩
abbrev main_v98 : Ref sig .tc := ⟨.hbm, 131, rfl⟩
abbrev main_cst_17 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_cst_18 : Ref sig .tc := ⟨.hbm, 136, rfl⟩
abbrev main_v102 : Ref sig .tc := ⟨.hbm, 137, rfl⟩
abbrev main_v103 : Ref sig .tc := ⟨.hbm, 138, rfl⟩
abbrev main_cst_19 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S1x6144x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x24576 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x6144x8192 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x6144x8192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x24576 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.KernelRun.lean ====
/- The kernel's run with its results: the program ends with its five result arrays at the contents of the last boundary
   of the program's stretches (`W5`: the fold of the host lines and of the two regions' write-backs from the launch
   memory), and its arguments as launched. -/
module

public import proofs.«01_k».proof.Proof.Gen.KernelIdeal.Frame

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

set_option backward.isDefEq.respectTransparency.types false in
/-- Every run ends with the results at `W5`'s contents and the arguments as launched. -/
theorem run : θ_run defs (onTc (τ := τ) (main (F := F))) ⟨m, fun _ => 0, ρ⟩ (fun r => ∀ c : Dev nD,
      r.2.mem ((c.tc : Thread nD τ).loc main_v38) = W5 m ρ c (Proc.devRef .tc main_v38)
      ∧ r.2.mem ((c.tc : Thread nD τ).loc main_v40) = W5 m ρ c (Proc.devRef .tc main_v40)
      ∧ r.2.mem ((c.tc : Thread nD τ).loc main_v42) = W5 m ρ c (Proc.devRef .tc main_v42)
      ∧ r.2.mem ((c.tc : Thread nD τ).loc main_v43) = W5 m ρ c (Proc.devRef .tc main_v43)
      ∧ r.2.mem ((c.tc : Thread nD τ).loc main_v44) = W5 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ => fun c =>
      ⟨h c _ (mem_uc main_v38 (by decide)),
       h c _ (mem_uc main_v40 (by decide)),
       h c _ (mem_uc main_v42 (by decide)),
       h c _ (mem_uc main_v43 (by decide)),
       h c _ (mem_uc main_v44 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c)⟩)

end Cert.KernelIdeal.Run

end
-- ==== Proof.KernelHost.lean ====
/- The host lines around the two grids, as terms of what they read. -/
module

public import proofs.«01_k».proof.Proof.Gen.KernelIdeal.Frame
public import Idealize.ShloMosaic.Lib.Pipeline.Value
public import Idealize.ShloMosaic.Lib.StableHlo.RunRead
public import Idealize.ShloMosaic.Lib.ValueIdx

@[expose] public section

set_option maxRecDepth 16384
set_option maxHeartbeats 2000000

noncomputable section

namespace Cert.KernelIdeal.HostLines

open Cert.KernelIdeal Cert.KernelIdeal.Gen
open Idealize.ShloMosaic Idealize.ShloMosaic.TcCoe Idealize.ShloMosaic.ValueIdx Idealize.SL.Sem Idealize.ShloMosaic.StableHlo

/-- The positions of the rows. -/
def posT (x4 : IVec S1 32) : FVec Ideal S1x6144 .f32 :=
  sitofp .f32 (addi (broadcastInDim S1x6144 ![0, 1] bcast_S1x1_S1x6144_0_1 (broadcastInDim S1x1 ![0] bcast_S1_S1x1_0 x4))
    (broadcastInDim S1x6144 ![1] bcast_S6144_S1x6144_1 (iotaInDim S6144 32 0)))

/-- The frequencies of the lanes. -/
def freqT : FVec Ideal S64 .f32 :=
  Host.powf (broadcastInDim S64 ![] bcast_S_S64 (constant S_ .f32 0x461C4000#32))
    (Host.divf (Host.negf (addf (broadcastInDim S64 ![] bcast_S_S64 (constant S_ .f32 0x00000000#32))
      (mulf (broadcastInDim S64 ![] bcast_S_S64 (constant S_ .f32 0x40000000#32)) (sitofp .f32 (iotaInDim S64 32 0)))))
      (broadcastInDim S64 ![] bcast_S_S64 (constant S_ .f32 0x43000000#32)))

/-- The angles. -/
def angT (x4 : IVec S1 32) : FVec Ideal S6144x64 .f32 :=
  mulf (broadcastInDim S6144x64 ![0, 1] bcast_S6144x1_S6144x64_0_1 (shapeCast S6144x1 (posT x4) shapeCasts_S1x6144_S6144x1))
    (broadcastInDim S6144x64 ![0, 1] bcast_S1x64_S6144x64_0_1 (broadcastInDim S1x64 ![1] bcast_S64_S1x64_1 freqT))

/-- The cosines, twice over. -/
def cosT (x4 : IVec S1 32) : FVec Ideal S6144x128 .f32 :=
  concatenate S6144x128 1 [⟨S6144x64, Host.cos (angT x4)⟩, ⟨S6144x64, Host.cos (angT x4)⟩] concatenates_S6144x64_S6144x64_S6144x128_d1

/-- The sines, negated and then as they are. -/
def sinT (x4 : IVec S1 32) : FVec Ideal S6144x128 .f32 :=
  concatenate S6144x128 1 [⟨S6144x64, Host.negf (Host.sin (angT x4))⟩, ⟨S6144x64, Host.sin (angT x4)⟩] concatenates_S6144x64_S6144x64_S6144x128_d1

/-- The weights of the heads, one row for each kind. -/
def headT (x5 x6 : FVec Ideal S128 .bf16) : FVec Ideal S3x1x128 .f32 :=
  shapeCast S3x1x128 (extf .f32 (concatenate S3x128 0 [⟨S1x128, broadcastInDim S1x128 ![1] bcast_S128_S1x128_1 x5⟩,
    ⟨S1x128, broadcastInDim S1x128 ![1] bcast_S128_S1x128_1 x6⟩, ⟨S1x128, broadcastInDim S1x128 ![1] bcast_S128_S1x128_1 x6⟩]
    concatenates_S1x128_S1x128_S1x128_S3x128_d0) bitsLt_bf16_f32) shapeCasts_S3x128_S3x1x128

variable (U : Valuation τ sig (Elt Ideal))

theorem read_v0 : StableHlo.after hostOps0 U (Proc.devRef .tc main_v0)
    = shapeCast S6144x8192 (U (Proc.devRef .tc main_arg0) : FVec Ideal S1x6144x8192 .bf16) shapeCasts_S1x6144x8192_S6144x8192 := by
  simp only [hostOps0]
  after_results_simp <;> rfl

theorem read_v2 : StableHlo.after hostOps0 U (Proc.devRef .tc main_v2)
    = shapeCast S1x8192 (extf (F := Ideal) (φ := .bf16) .f32 (U (Proc.devRef .tc main_arg1) : FVec Ideal S8192 .bf16) bitsLt_bf16_f32) shapeCasts_S8192_S1x8192 := by
  simp only [hostOps0]
  after_results_simp <;> rfl

theorem read_v27 : StableHlo.after hostOps1 U (Proc.devRef .tc main_v27) = cosT (U (Proc.devRef .tc main_arg4)) := by
  simp only [hostOps1]
  after_results_simp <;> rfl

theorem read_v29 : StableHlo.after hostOps1 U (Proc.devRef .tc main_v29) = sinT (U (Proc.devRef .tc main_arg4)) := by
  simp only [hostOps1]
  after_results_simp <;> rfl

theorem read_v35 : StableHlo.after hostOps1 U (Proc.devRef .tc main_v35)
    = headT (U (Proc.devRef .tc main_arg5)) (U (Proc.devRef .tc main_arg6)) := by
  simp only [hostOps1]
  after_results_simp <;> rfl

theorem read_v38 : StableHlo.after hostOps2 U (Proc.devRef .tc main_v38)
    = shapeCast S1x6144x64x128 (extractStridedSlice S6144x8192 ![0, 0] (U (Proc.devRef .tc main_v36) : FVec Ideal S6144x24576 .bf16)
        slices_S6144x24576_S6144x8192_0_0) shapeCasts_S6144x8192_S1x6144x64x128 := by
  simp only [hostOps2]
  after_results_simp <;> rfl

theorem read_v40 : StableHlo.after hostOps2 U (Proc.devRef .tc main_v40)
    = shapeCast S1x6144x64x128 (extractStridedSlice S6144x8192 ![0, 8192] (U (Proc.devRef .tc main_v36) : FVec Ideal S6144x24576 .bf16)
        slices_S6144x24576_S6144x8192_0_8192) shapeCasts_S6144x8192_S1x6144x64x128 := by
  simp only [hostOps2]
  after_results_simp <;> rfl

theorem read_v42 : StableHlo.after hostOps2 U (Proc.devRef .tc main_v42)
    = shapeCast S1x6144x64x128 (extractStridedSlice S6144x8192 ![0, 16384] (U (Proc.devRef .tc main_v36) : FVec Ideal S6144x24576 .bf16)
        slices_S6144x24576_S6144x8192_0_16384) shapeCasts_S6144x8192_S1x6144x64x128 := by
  simp only [hostOps2]
  after_results_simp <;> rfl

theorem read_v43 : StableHlo.after hostOps2 U (Proc.devRef .tc main_v43)
    = shapeCast S1x6144x8192 (U (Proc.devRef .tc main_v3_0) : FVec Ideal S6144x8192 .fp8e4m3) shapeCasts_S6144x8192_S1x6144x8192 := by
  simp only [hostOps2]
  after_results_simp <;> rfl

theorem read_v44 : StableHlo.after hostOps2 U (Proc.devRef .tc main_v44)
    = shapeCast S1x6144x64 (U (Proc.devRef .tc main_v3_1) : FVec Ideal S6144x64 .f32) shapeCasts_S6144x64_S1x6144x64 := by
  simp only [hostOps2]
  after_results_simp <;> rfl

end Cert.KernelIdeal.HostLines

end
-- ==== Proof.ScaleMath.lean ====
/- The quantiser's scale as mathematics: the least power of two above a quotient, found by comparison with the powers
   (the reference's way) and by counting the powers at most the quotient (the kernel's way, on bit patterns). -/
module

public import Idealize.ShloMosaic.PureOps.Ideal.Laws
public import Idealize.ShloMosaic.Lib.Pipeline.Value

@[expose] public section

noncomputable section

namespace Cert.Spec

open Idealize.ShloMosaic

/-- A power of two. -/
def p2 (k : ℤ) : EReal := (((2 : ℝ) ^ k : ℝ) : EReal)

theorem p2_lt {a b : ℤ} (h : a < b) : p2 a < p2 b :=
  EReal.coe_lt_coe_iff.2 (zpow_lt_zpow_right₀ (by norm_num) h)

theorem p2_le {a b : ℤ} (h : a ≤ b) : p2 a ≤ p2 b :=
  EReal.coe_le_coe_iff.2 (zpow_le_zpow_right₀ (by norm_num) h)

theorem p2_lt_top (a : ℤ) : p2 a < ⊤ := EReal.coe_lt_top _

/-- The scale of a quotient `q`: one where `q` is below the least normal number, else the least power of two above `q`. -/
def scale (q : EReal) : EReal :=
  if q < p2 (-126) then 1
  else Finset.univ.inf fun k : Fin 253 => if q < p2 ((k.val : ℤ) - 125) then p2 ((k.val : ℤ) - 125) else ⊤

theorem scale_of_between {q : EReal} {k : Nat} (hk : k < 253) (h0 : p2 ((k : ℤ) - 126) ≤ q) (h1 : q < p2 ((k : ℤ) - 125)) :
    scale q = p2 ((k : ℤ) - 125) := by
  unfold scale
  rw [if_neg (not_lt.2 ((p2_le (by omega)).trans h0))]
  apply le_antisymm
  · refine (Finset.inf_le (Finset.mem_univ ⟨k, hk⟩)).trans ?_
    rw [if_pos h1]
  · refine Finset.le_inf fun j _ => ?_
    split_ifs with hj
    · by_contra hlt
      have hjk : (j.val : ℤ) - 125 < (k : ℤ) - 125 := by
        by_contra hc
        exact hlt (p2_le (not_lt.1 hc))
      exact absurd (hj.trans_le ((p2_le (by omega)).trans h0)) (lt_irrefl _)
    · exact le_top

/-- Where a quotient lies among the powers. -/
theorem exists_between {q : EReal} (h0 : p2 (-126) ≤ q) (h1 : q < p2 126) :
    ∃ k : Nat, k ≤ 251 ∧ p2 ((k : ℤ) - 126) ≤ q ∧ q < p2 ((k : ℤ) - 125) := by
  classical
  have hex : ∃ k : Nat, q < p2 ((k : ℤ) - 125) := ⟨251, by simpa using h1⟩
  refine ⟨Nat.find hex, Nat.find_min' hex (by simpa using h1), ?_, Nat.find_spec hex⟩
  by_cases hz : Nat.find hex = 0
  · rw [hz]; simpa using h0
  · have := Nat.find_min hex (m := Nat.find hex - 1) (by omega)
    rw [not_lt] at this
    convert this using 2
    omega

theorem fields : ∀ n : Fin 256, ((BitVec.ofNat 32 n.val <<< 23).extractLsb' 31 1 == 1#1) = false
    ∧ ((BitVec.ofNat 32 n.val <<< 23).extractLsb' 23 8).toNat = n.val
    ∧ ((BitVec.ofNat 32 n.val <<< 23).extractLsb' 0 23).toNat = 0 := by decide +kernel

/-- A pattern with only an exponent field is a power of two. -/
theorem ofBits_field {n : Nat} (h0 : 0 < n) (h1 : n < 255) :
    Ideal.ofBits .f32 (BitVec.ofNat 32 n <<< 23) = p2 ((n : ℤ) - 127) := by
  obtain ⟨a, b, c⟩ := fields ⟨n, by omega⟩
  simp only at a b c
  simp only [Ideal.ofBits, Ideal.ieee, Nat.reduceAdd, a, b, c]
  rw [if_neg (by omega), if_neg (by omega)]
  have e : (2 : ℝ) ^ (23 : ℤ) * (2 : ℝ) ^ ((n : ℤ) - 150) = (2 : ℝ) ^ ((n : ℤ) - 127) := by
    rw [← zpow_add₀ (by norm_num)]
    exact congrArg _ (by ring)
  refine congrArg (fun r : ℝ => (r : EReal)) ?_
  rw [← e, show (((2 : ℤ) ^ (8 - 1) - 1)) = 127 by norm_num]
  push_cast
  rw [show (n : ℤ) - 127 - 23 = (n : ℤ) - 150 by ring]
  simp only [Bool.false_eq_true, if_false, one_mul, add_zero, zpow_ofNat]
  rw [show (8388608 : ℝ) = 2 ^ 23 by norm_num]

theorem ofBits_field_top : Ideal.ofBits .f32 (BitVec.ofNat 32 255 <<< 23) = ⊤ := by
  obtain ⟨a, b, c⟩ := fields ⟨255, by omega⟩
  simp only at a b c
  simp only [Ideal.ofBits, Ideal.ieee, Nat.reduceAdd, a, b, c]
  simp

/-- The threshold of exponent field `l + 1`. -/
def thr (l : Fin 255) : EReal := Ideal.ofBits .f32 (BitVec.ofNat 32 (l.val + 1) <<< 23)

theorem thr_eq (l : Fin 255) (h : l.val < 254) : thr l = p2 ((l.val : ℤ) - 126) := by
  unfold thr
  rw [ofBits_field (by omega) (by omega)]
  congr 1
  push_cast
  ring

theorem thr_last (l : Fin 255) (h : ¬ l.val < 254) : thr l = ⊤ := by
  unfold thr
  rw [show l.val + 1 = 255 by omega]
  exact ofBits_field_top

/-- The number of thresholds at most `q`. -/
def count (q : EReal) : Nat := (Finset.univ.filter fun l : Fin 255 => thr l ≤ q).card

theorem count_zero {q : EReal} (h : q < p2 (-126)) : count q = 0 := by
  unfold count
  rw [Finset.card_eq_zero, Finset.filter_eq_empty_iff]
  intro l _
  rw [not_le]
  by_cases hl : l.val < 254
  · rw [thr_eq l hl]; exact h.trans_le (p2_le (by omega))
  · rw [thr_last l hl]; exact h.trans (p2_lt_top _)

theorem count_between {q : EReal} {k : Nat} (hk : k ≤ 251) (h0 : p2 ((k : ℤ) - 126) ≤ q) (h1 : q < p2 ((k : ℤ) - 125)) :
    count q = k + 1 := by
  unfold count
  rw [show (Finset.univ.filter fun l : Fin 255 => thr l ≤ q) = Finset.univ.filter fun l : Fin 255 => l.val < k + 1 from ?_]
  · rw [Fin.card_filter_val_lt]; omega
  · ext l
    simp only [Finset.mem_filter, Finset.mem_univ, true_and]
    by_cases hl : l.val < 254
    · rw [thr_eq l hl]
      constructor
      · intro h
        by_contra hc
        exact absurd (h.trans_lt h1) (not_lt.2 (p2_le (by omega)))
      · intro h
        exact (p2_le (by omega)).trans h0
    · rw [thr_last l hl]
      constructor
      · intro h
        exact absurd (h.trans_lt h1) (not_lt.2 le_top)
      · intro h
        omega

/-- The exponent field of the scale. -/
def bias (n : BitVec 32) : BitVec 32 := if n = 0#32 then 127#32 else n + 1#32

theorem one_eq : Ideal.ofBits .f32 (127#32 <<< 23) = 1 := by
  have := ofBits_field (n := 127) (by omega) (by omega)
  rw [show (127#32 : BitVec 32) = BitVec.ofNat 32 127 from rfl, this]
  simp [p2]

/-- The kernel's scale and inverse are the reference's, for a quotient within the powers that have an inverse. -/
theorem scale_bits {q : EReal} (h : q < p2 126) :
    Ideal.ofBits .f32 (bias (BitVec.ofNat 32 (count q)) <<< 23) = scale q
    ∧ Ideal.ofBits .f32 ((254#32 - bias (BitVec.ofNat 32 (count q))) <<< 23) = Ideal.div 1 (scale q) := by
  by_cases hq : q < p2 (-126)
  · rw [count_zero hq, show bias (BitVec.ofNat 32 0) = 127#32 from rfl, show (254#32 - 127#32 : BitVec 32) = 127#32 from rfl,
      one_eq]
    have : scale q = 1 := by unfold scale; rw [if_pos hq]
    rw [this]
    refine ⟨rfl, ?_⟩
    simp [Ideal.div]
  · obtain ⟨k, hk, h0, h1⟩ := exists_between (not_lt.1 hq) h
    rw [count_between hk h0 h1, scale_of_between (by omega) h0 h1]
    have hb : bias (BitVec.ofNat 32 (k + 1)) = BitVec.ofNat 32 (k + 2) := by
      unfold bias
      rw [if_neg ?_]
      · apply BitVec.eq_of_toNat_eq; simp
      · intro hc
        have := congrArg BitVec.toNat hc
        simp at this
        omega
    rw [hb, show (254#32 - BitVec.ofNat 32 (k + 2)) = BitVec.ofNat 32 (252 - k) from by
      apply BitVec.eq_of_toNat_eq
      simp
      omega]
    rw [ofBits_field (by omega) (by omega), ofBits_field (by omega) (by omega)]
    refine ⟨by congr 1; push_cast; ring, ?_⟩
    rw [Ideal.div, if_neg ?_]
    · rw [one_mul, p2, p2, ← EReal.coe_inv, ← zpow_neg]
      congr 2
      omega
    · have : (0 : EReal) < p2 ((k : ℤ) - 125) := EReal.coe_pos.2 (by positivity)
      exact this.ne'

end Cert.Spec

end
-- ==== Proof.Spec.lean ====
/- The mathematics both programs compute, element by element, on extended reals: the normalised activations, the group
   quotient, the codes and scales, and the bound that keeps every quotient below the powers' range. -/
module

public import proofs.«01_k».proof.Proof.ScaleMath

@[expose] public section

noncomputable section

namespace Cert.Spec

open Idealize.ShloMosaic
open scoped BigOperators

/-- 1/8192. -/
def cMean : EReal := Ideal.ofBits .f32 0x39000000#32
/-- The small constant under the root. -/
def cEps : EReal := Ideal.ofBits .f32 0x358637BD#32
/-- The nearest number to 1/448. -/
def c448 : EReal := Ideal.ofBits .f32 0x3B124925#32

theorem cMean_eq : cMean = ((1 / 8192 : ℝ) : EReal) := by
  simp [cMean, Ideal.ofBits, Ideal.ieee, -EReal.coe_mul]; norm_num

theorem cEps_eq : cEps = ((8796093 / 8796093022208 : ℝ) : EReal) := by
  simp [cEps, Ideal.ofBits, Ideal.ieee, -EReal.coe_mul]; norm_num

theorem c448_eq : c448 = ((9586981 / 4294967296 : ℝ) : EReal) := by
  simp [c448, Ideal.ofBits, Ideal.ieee, -EReal.coe_mul]; norm_num

/-- The magnitude of an extended real. -/
def mag (v : EReal) : EReal := max v (-v)

/-- A row's factor: the reciprocal root of its mean square. -/
def rowFactor (x : Fin 8192 → EReal) : EReal := Ideal.rsqrt ((∑ d, x d * x d) * cMean + cEps)

/-- A row's normalised value. -/
def hval (x w : Fin 8192 → EReal) (d : Fin 8192) : EReal := x d * rowFactor x * w d

/-- Column `l` of group `g`. -/
def col (g : Fin 64) (l : Fin 128) : Fin 8192 := ⟨128 * g.val + l.val, by omega⟩

/-- The group of a column. -/
def grp (d : Fin 8192) : Fin 64 := ⟨d.val / 128, by omega⟩

/-- A group's greatest magnitude. -/
def amax (h : Fin 8192 → EReal) (g : Fin 64) : EReal := Finset.univ.fold max ⊥ fun l : Fin 128 => mag (h (col g l))

/-- A group's quotient. -/
def quot (x w : Fin 8192 → EReal) (g : Fin 64) : EReal := amax (hval x w) g * c448

/-- A group's scale. -/
def xScale (x w : Fin 8192 → EReal) (g : Fin 64) : EReal := scale (quot x w g)

/-- Clipping to ±448. -/
def clip (v : EReal) : EReal := min (Ideal.ofBits .f32 0x43E00000#32) (max (Ideal.ofBits .f32 0xC3E00000#32) v)

/-- A code. -/
def code (x w : Fin 8192 → EReal) (d : Fin 8192) : EReal :=
  clip (hval x w d * Ideal.div 1 (xScale x w (grp d)))

/-- A code scaled back. -/
def xa (x w : Fin 8192 → EReal) (d : Fin 8192) : EReal := code x w d * xScale x w (grp d)

/-! ## The bound -/

theorem mul_self_nonneg' (v : EReal) : 0 ≤ v * v := by
  rcases le_total 0 v with h | h
  · exact mul_nonneg h h
  · have := mul_nonneg (EReal.neg_nonneg.2 h) (EReal.neg_nonneg.2 h)
    rwa [EReal.neg_mul, mul_comm, EReal.neg_mul, neg_neg] at this

theorem rsqrt_top : Ideal.rsqrt ⊤ = 0 := rfl

theorem rsqrt_pos {r : ℝ} (h : 0 < r) : Ideal.rsqrt (r : EReal) = (((Real.sqrt r)⁻¹ : ℝ) : EReal) := by
  show (if r < 0 then (⊥ : EReal) else if r = 0 then ⊤ else (((Real.sqrt r)⁻¹ : ℝ) : EReal)) = _
  rw [if_neg (not_lt.2 h.le), if_neg h.ne']

/-- A normalised value before its weight is a real of magnitude at most 91. -/
theorem normed_bound (x : Fin 8192 → EReal) (d : Fin 8192) :
    ∃ y : ℝ, x d * rowFactor x = (y : EReal) ∧ |y| ≤ 91 := by
  have hS0 : 0 ≤ ∑ d, x d * x d := Finset.sum_nonneg fun d _ => mul_self_nonneg' (x d)
  have hle : x d * x d ≤ ∑ d, x d * x d :=
    Finset.single_le_sum (f := fun d => x d * x d) (fun d _ => mul_self_nonneg' (x d)) (Finset.mem_univ d)
  unfold rowFactor
  generalize (∑ d, x d * x d) = S at hS0 hle
  rw [cMean_eq, cEps_eq]
  induction S with
  | bot => exact absurd hS0 (by simp)
  | top =>
    rw [EReal.top_mul_coe_of_pos (by norm_num), EReal.top_add_coe]
    exact ⟨0, by rw [rsqrt_top, mul_zero]; rfl, by norm_num⟩
  | coe s =>
    have hs : 0 ≤ s := EReal.coe_nonneg.1 hS0
    rw [← EReal.coe_mul, ← EReal.coe_add]
    generalize x d = v at hle
    induction v with
    | bot => simp at hle
    | top => simp at hle
    | coe a =>
      have ha : a * a ≤ s := by rw [← EReal.coe_mul] at hle; exact EReal.coe_le_coe_iff.1 hle
      have hpos : 0 < s * (1 / 8192) + 8796093 / 8796093022208 := by positivity
      refine ⟨a * (Real.sqrt (s * (1 / 8192) + 8796093 / 8796093022208))⁻¹, ?_, ?_⟩
      · rw [rsqrt_pos hpos, ← EReal.coe_mul]
      · rw [abs_mul, abs_inv, abs_of_nonneg (Real.sqrt_nonneg _), ← div_eq_mul_inv,
          div_le_iff₀ (Real.sqrt_pos.2 hpos)]
        apply abs_le_of_sq_le_sq _ (by positivity)
        rw [mul_pow, Real.sq_sqrt hpos.le]
        nlinarith

/-- The greatest weight the precondition allows. -/
def wMax : EReal := Ideal.ofBits .f32 0x7F7F0000#32

theorem wMax_le : wMax ≤ (((2 : ℝ) ^ 128 : ℝ) : EReal) := by
  have : wMax = ((16711680 * (2 : ℝ) ^ 104 : ℝ) : EReal) := by
    simp [wMax, Ideal.ofBits, Ideal.ieee, -EReal.coe_mul]
  rw [this]
  exact EReal.coe_le_coe_iff.2 (by norm_num)

theorem hval_bound (x w : Fin 8192 → EReal) (hw : ∀ d, mag (w d) ≤ wMax) (d : Fin 8192) :
    mag (hval x w d) ≤ ((91 * (2 : ℝ) ^ 128 : ℝ) : EReal) := by
  obtain ⟨y, hy, hb⟩ := normed_bound x d
  unfold hval
  rw [hy]
  have h := (hw d).trans wMax_le
  generalize w d = v at h
  unfold mag at h ⊢
  induction v with
  | bot => simp at h; exact absurd h (EReal.coe_ne_top _)
  | top => simp at h; exact absurd h (EReal.coe_ne_top _)
  | coe a =>
    rw [← EReal.coe_neg] at h
    have h1 := EReal.coe_le_coe_iff.1 ((le_max_left _ _).trans h)
    have h2 := EReal.coe_le_coe_iff.1 ((le_max_right _ _).trans h)
    have ha : |a| ≤ (2 : ℝ) ^ 128 := abs_le.2 ⟨by linarith, h1⟩
    have hm : |y * a| ≤ 91 * (2 : ℝ) ^ 128 := by
      rw [abs_mul]; exact mul_le_mul hb ha (abs_nonneg _) (by norm_num)
    rw [← EReal.coe_mul, ← EReal.coe_neg]
    exact max_le (EReal.coe_le_coe_iff.2 ((le_abs_self _).trans hm)) (EReal.coe_le_coe_iff.2 ((neg_le_abs _).trans hm))

theorem quot_lt (x w : Fin 8192 → EReal) (hw : ∀ d, mag (w d) ≤ wMax) (g : Fin 64) : quot x w g < p2 126 := by
  unfold quot
  have h1 : amax (hval x w) g ≤ ((91 * (2 : ℝ) ^ 128 : ℝ) : EReal) := by
    unfold amax
    rw [Finset.fold_max_le]
    exact ⟨bot_le, fun l _ => hval_bound x w hw _⟩
  rw [c448_eq]
  refine (mul_le_mul_of_nonneg_right h1 (EReal.coe_nonneg.2 (by norm_num))).trans_lt ?_
  rw [← EReal.coe_mul, p2]
  exact EReal.coe_lt_coe_iff.2 (by norm_num)

end Cert.Spec

end
-- ==== Proof.HeadSpec.lean ====
/- The mathematics of the projection and its heads, element by element: the product of scaled-back codes and scaled
   weights, a head's normalisation and its rotation. -/
module

public import proofs.«01_k».proof.Proof.Spec

@[expose] public section

noncomputable section

namespace Cert.Spec

open Idealize.ShloMosaic
open scoped BigOperators

/-- 128. -/
def c128 : EReal := Ideal.ofBits .f32 0x43000000#32

/-- One projected value: a row of scaled-back codes against a column of weights, each times its tile's scale. -/
def proj (r w : Fin 8192 → EReal) (s : Fin 64 → EReal) : EReal := ∑ d, r d * (w d * s (grp d))

/-- A head's normalised value. -/
def headNorm (p w : Fin 128 → EReal) (e : Fin 128) : EReal :=
  p e * Ideal.rsqrt (Ideal.div (∑ l, p l * p l) c128 + cEps) * w e

/-- The other half's partner of a lane. -/
def swap (e : Fin 128) : Fin 128 := ⟨(e.val + 64) % 128, Nat.mod_lt _ (by decide)⟩

/-- A head turned: normalised, times the cosines, plus its halves swapped times the signed sines. -/
def turned (p w cs sn : Fin 128 → EReal) (e : Fin 128) : EReal :=
  headNorm p w e * cs e + headNorm p w (swap e) * sn e

end Cert.Spec

end
-- ==== Proof.ResultSpec.lean ====
/- The five results as functions of the seven arguments, element by element. -/
module

public import proofs.«01_k».proof.Proof.HeadSpec
public import Idealize.ShloMosaic.Lib.ValueIdx

@[expose] public section

noncomputable section

namespace Cert.Spec

open Idealize.ShloMosaic Idealize.ShloMosaic.ValueIdx
open scoped BigOperators

/-- The angle of row `s` and frequency `f`, the rows counted from `off`. -/
def angle (off : BitVec 32) (s : Fin 6144) (f : Fin 64) : EReal :=
  (((off + BitVec.ofNat 32 s.val).toInt : ℝ) : EReal)
    * Ideal.pow (Ideal.ofBits .f32 0x461C4000#32)
        (Ideal.div (-(Ideal.ofBits .f32 0x00000000#32
          + Ideal.ofBits .f32 0x40000000#32 * (((BitVec.ofNat 32 f.val).toInt : ℝ) : EReal))) c128)

/-- A lane's frequency: the same for both halves. -/
def lo (e : Fin 128) : Fin 64 := ⟨e.val % 64, Nat.mod_lt _ (by decide)⟩

/-- A lane's cosine. -/
def cs (off : BitVec 32) (s : Fin 6144) (e : Fin 128) : EReal := Ideal.cos (angle off s (lo e))
/-- A lane's signed sine: negative in the first half. -/
def sn (off : BitVec 32) (s : Fin 6144) (e : Fin 128) : EReal :=
  if e.val < 64 then -Ideal.sin (angle off s (lo e)) else Ideal.sin (angle off s (lo e))

/-- Column `l` of head `n`. -/
def headLane (n : Fin 192) (l : Fin 128) : Fin 24576 := ⟨128 * n.val + l.val, by omega⟩

section
variable (x : (⟨3, ![1, 6144, 8192]⟩ : Shape).Idx → EReal) (w : (⟨1, ![8192]⟩ : Shape).Idx → EReal)
  (wq : (⟨2, ![8192, 24576]⟩ : Shape).Idx → EReal) (ws : (⟨2, ![64, 192]⟩ : Shape).Idx → EReal)
  (off : (⟨1, ![1]⟩ : Shape).Idx → BitVec 32) (nw : (⟨1, ![128]⟩ : Shape).Idx → EReal)

/-- Row `s` of the activations. -/
def xRow (s : Fin 6144) : Fin 8192 → EReal := fun d => x (ix3 0 s d)
/-- The weights of the first normalisation. -/
def wRow : Fin 8192 → EReal := fun d => w (ix1 d)

/-- Head `n` of row `s` of the product. -/
def headOf (s : Fin 6144) (n : Fin 192) (l : Fin 128) : EReal :=
  proj (xa (xRow x s) (wRow w)) (fun d => wq (ix2 d (headLane n l))) (fun g => ws (ix2 g n))

/-- A query or key result, its heads counted from `base`: normalised with `nw` and turned. -/
def outTurned (base : Nat) (hb : base ≤ 128) (i : (⟨4, ![1, 6144, 64, 128]⟩ : Shape).Idx) : EReal :=
  turned (headOf x w wq ws (i 1) ⟨base + (i 2).val, by have : (i 2).val < 64 := (i 2).isLt; omega⟩)
    (fun l => nw (ix1 l)) (cs (off (ix1 0)) (i 1)) (sn (off (ix1 0)) (i 1)) (i 3)

/-- The value result: the heads from 128 on, as they are. -/
def outPlain (i : (⟨4, ![1, 6144, 64, 128]⟩ : Shape).Idx) : EReal :=
  headOf x w wq ws (i 1) ⟨128 + (i 2).val, by have : (i 2).val < 64 := (i 2).isLt; omega⟩ (i 3)

/-- The codes. -/
def outCodes (i : (⟨3, ![1, 6144, 8192]⟩ : Shape).Idx) : EReal := code (xRow x (i 1)) (wRow w) (i 2)
/-- The scales. -/
def outScales (i : (⟨3, ![1, 6144, 64]⟩ : Shape).Idx) : EReal := xScale (xRow x (i 1)) (wRow w) (i 2)
end

end Cert.Spec

end
-- ==== Proof.KernelTables.lean ====
/- The tables the projection reads, element by element: cosines, signed sines and head weights. -/
module

public import proofs.«01_k».proof.Proof.KernelHost
public import proofs.«01_k».proof.Proof.ResultSpec

@[expose] public section

set_option maxRecDepth 16384

noncomputable section

namespace Cert.KernelIdeal.HostLines

open Cert.KernelIdeal Cert.KernelIdeal.Gen Cert.Spec
open Idealize.ShloMosaic Idealize.ShloMosaic.TcCoe Idealize.ShloMosaic.ValueIdx Idealize.SL.Sem

theorem posT_apply (x4 : IVec S1 32) (s : Fin 6144) :
    posT x4 (ix2 0 s) = (((x4 (ix1 0) + BitVec.ofNat 32 s.val).toInt : ℝ) : EReal) := by
  have h1 : broadcastInDim S1x6144 ![0, 1] bcast_S1x1_S1x6144_0_1 (broadcastInDim S1x1 ![0] bcast_S1_S1x1_0 x4) (ix2 0 s) = x4 (ix1 0) := by
    refine (broadcastInDim_apply _ bcast_S1x1_S1x6144_0_1 _ (ix2 0 s) (ix2 0 0) (fun a => match a with
      | ⟨0, _⟩ => by show (0 : Nat) = if (1 : Nat) = 1 then 0 else _; rw [if_pos rfl]
      | ⟨1, _⟩ => by show (0 : Nat) = if (1 : Nat) = 1 then 0 else _; rw [if_pos rfl])).trans ?_
    exact broadcastInDim_apply _ bcast_S1_S1x1_0 x4 (ix2 0 0) (ix1 0) (fun a => match a with
      | ⟨0, _⟩ => by show (0 : Nat) = if (1 : Nat) = 1 then 0 else _; rw [if_pos rfl])
  have h2 : broadcastInDim S1x6144 ![1] bcast_S6144_S1x6144_1 (iotaInDim S6144 32 0) (ix2 0 s) = BitVec.ofNat 32 s.val :=
    broadcastInDim_apply _ bcast_S6144_S1x6144_1 (iotaInDim S6144 32 0) (ix2 0 s) (ix1 s) (fun a => match a with
      | ⟨0, _⟩ => by show s.val = if (6144 : Nat) = 1 then 0 else _; rw [if_neg (by decide)]; rfl)
  exact congrArg (fun b : BitVec 32 => ((b.toInt : ℝ) : EReal)) (congrArg₂ (· + ·) h1 h2)

theorem freqT_apply (f : Fin 64) : freqT (ix1 f)
    = Ideal.pow (Ideal.ofBits .f32 0x461C4000#32)
        (Ideal.div (-(Ideal.ofBits .f32 0x00000000#32
          + Ideal.ofBits .f32 0x40000000#32 * (((BitVec.ofNat 32 f.val).toInt : ℝ) : EReal))) c128) := rfl

theorem angT_apply (x4 : IVec S1 32) (s : Fin 6144) (f : Fin 64) : angT x4 (ix2 s f) = angle (x4 (ix1 0)) s f := by
  have h1 : broadcastInDim S6144x64 ![0, 1] bcast_S6144x1_S6144x64_0_1 (shapeCast S6144x1 (posT x4) shapeCasts_S1x6144_S6144x1) (ix2 s f)
      = posT x4 (ix2 0 s) := by
    refine (broadcastInDim_apply _ bcast_S6144x1_S6144x64_0_1 _ (ix2 s f) (ix2 s 0) (fun a => match a with
      | ⟨0, _⟩ => by show s.val = if (6144 : Nat) = 1 then 0 else _; rw [if_neg (by decide)]; rfl
      | ⟨1, _⟩ => by show (0 : Nat) = if (1 : Nat) = 1 then 0 else _; rw [if_pos rfl])).trans ?_
    exact shapeCast_apply _ shapeCasts_S1x6144_S6144x1 (ix2 s 0) (ix2 0 s) (by
      rw [Shape.rowMajor_val_two, Shape.rowMajor_val_two]; show 0 * 6144 + s.val = s.val * 1 + 0; omega)
  have h2 : broadcastInDim S6144x64 ![0, 1] bcast_S1x64_S6144x64_0_1 (broadcastInDim S1x64 ![1] bcast_S64_S1x64_1 freqT) (ix2 s f)
      = freqT (ix1 f) := by
    refine (broadcastInDim_apply _ bcast_S1x64_S6144x64_0_1 _ (ix2 s f) (ix2 0 f) (fun a => match a with
      | ⟨0, _⟩ => by show (0 : Nat) = if (1 : Nat) = 1 then 0 else _; rw [if_pos rfl]
      | ⟨1, _⟩ => by show f.val = if (64 : Nat) = 1 then 0 else _; rw [if_neg (by decide)]; rfl)).trans ?_
    exact broadcastInDim_apply _ bcast_S64_S1x64_1 freqT (ix2 0 f) (ix1 f) (fun a => match a with
      | ⟨0, _⟩ => by show f.val = if (64 : Nat) = 1 then 0 else _; rw [if_neg (by decide)]; rfl)
  exact (congrArg₂ (fun a b : EReal => a * b) h1 h2).trans (congrArg₂ (fun a b : EReal => a * b) (posT_apply x4 s) (freqT_apply f))

/-- Two half tables side by side, read at a lane. -/
theorem pair_apply (u v : FVec Ideal S6144x64 .f32) (s : Fin 6144) (e : Fin 128) :
    concatenate S6144x128 1 [⟨S6144x64, u⟩, ⟨S6144x64, v⟩] concatenates_S6144x64_S6144x64_S6144x128_d1 (ix2 s e)
      = if e.val < 64 then u (ix2 s (lo e)) else v (ix2 s (lo e)) := by
  by_cases h : e.val < 64
  · rw [if_pos h]
    exact concatenate_pair_apply_left 1 u v concatenates_S6144x64_S6144x64_S6144x128_d1 (ix2 s e) rfl (ix2 s (lo e))
      (fun b => match b with
        | ⟨0, _⟩ => rfl
        | ⟨1, _⟩ => by show e.val % 64 = e.val; omega)
  · rw [if_neg h]
    exact concatenate_pair_apply_right 1 u v concatenates_S6144x64_S6144x64_S6144x128_d1 (ix2 s e) rfl rfl (ix2 s (lo e))
      (fun b => match b with
        | ⟨0, _⟩ => fun _ => rfl
        | ⟨1, _⟩ => fun hn => absurd rfl hn) (by show e.val % 64 + 64 = e.val; omega)

theorem cosT_apply (x4 : IVec S1 32) (s : Fin 6144) (e : Fin 128) : cosT x4 (ix2 s e) = cs (x4 (ix1 0)) s e := by
  unfold cosT cs
  rw [pair_apply, ite_self]
  exact congrArg Ideal.cos (angT_apply x4 s (lo e))

theorem sinT_apply (x4 : IVec S1 32) (s : Fin 6144) (e : Fin 128) : sinT x4 (ix2 s e) = sn (x4 (ix1 0)) s e := by
  unfold sinT sn
  rw [pair_apply]
  split
  · exact congrArg (fun a => -Ideal.sin a) (angT_apply x4 s (lo e))
  · exact congrArg Ideal.sin (angT_apply x4 s (lo e))

/-- The head weights of a kind: the queries' first, the keys' otherwise. -/
theorem headT_apply (x5 x6 : FVec Ideal S128 .bf16) (k : Fin 3) (l : Fin 128) :
    headT x5 x6 (ix3 k 0 l) = if k.val = 0 then x5 (ix1 l) else x6 (ix1 l) := by
  have hrow : ∀ y : FVec Ideal S128 .bf16, broadcastInDim S1x128 ![1] bcast_S128_S1x128_1 y (ix2 0 l) = y (ix1 l) := fun y =>
    broadcastInDim_apply _ bcast_S128_S1x128_1 y (ix2 0 l) (ix1 l) (fun a => match a with
      | ⟨0, _⟩ => by show l.val = if (128 : Nat) = 1 then 0 else _; rw [if_neg (by decide)]; rfl)
  unfold headT
  refine (shapeCast_apply _ shapeCasts_S3x128_S3x1x128 (ix3 k 0 l) (ix2 k l) (by
    rw [Shape.rowMajor_val_two, Shape.rowMajor_val_three]; show k.val * 128 + l.val = (k.val * 1 + 0) * 128 + l.val; omega)).trans ?_
  have hp : ∀ (y0 y1 y2 y : FVec Ideal S1x128 .bf16), ([(⟨S1x128, y0⟩ : (s : Shape) × (s.Idx → EReal)), ⟨S1x128, y1⟩, ⟨S1x128, y2⟩])[k.val]'(k.isLt) = ⟨S1x128, y⟩ →
      concatenate S3x128 0 [⟨S1x128, y0⟩, ⟨S1x128, y1⟩, ⟨S1x128, y2⟩] concatenates_S1x128_S1x128_S1x128_S3x128_d0 (ix2 k l) = y (ix2 0 l) := by
    intro y0 y1 y2 y hy
    exact concatenate_apply_piece 0 [⟨S1x128, y0⟩, ⟨S1x128, y1⟩, ⟨S1x128, y2⟩] concatenates_S1x128_S1x128_S1x128_S3x128_d0 (ix2 k l)
      k.val k.isLt S1x128 y hy rfl k.val
      (match k with | ⟨0, _⟩ => rfl | ⟨1, _⟩ => rfl | ⟨2, _⟩ => rfl) (ix2 0 l) (fun b => match b with
        | ⟨0, _⟩ => fun hn => absurd rfl hn
        | ⟨1, _⟩ => fun _ => rfl) rfl
  match k with
  | ⟨0, _⟩ => exact (hp (broadcastInDim S1x128 ![1] bcast_S128_S1x128_1 x5) (broadcastInDim S1x128 ![1] bcast_S128_S1x128_1 x6)
      (broadcastInDim S1x128 ![1] bcast_S128_S1x128_1 x6) _ rfl).trans ((hrow x5).trans (if_pos rfl).symm)
  | ⟨1, _⟩ => exact (hp (broadcastInDim S1x128 ![1] bcast_S128_S1x128_1 x5) (broadcastInDim S1x128 ![1] bcast_S128_S1x128_1 x6)
      (broadcastInDim S1x128 ![1] bcast_S128_S1x128_1 x6) _ rfl).trans ((hrow x6).trans (if_neg (show ¬ (1 = 0) by decide)).symm)
  | ⟨2, _⟩ => exact (hp (broadcastInDim S1x128 ![1] bcast_S128_S1x128_1 x5) (broadcastInDim S1x128 ![1] bcast_S128_S1x128_1 x6)
      (broadcastInDim S1x128 ![1] bcast_S128_S1x128_1 x6) _ rfl).trans ((hrow x6).trans (if_neg (show ¬ (2 = 0) by decide)).symm)

end Cert.KernelIdeal.HostLines

end
-- ==== Proof.QuantPieces.lean ====
/- The quantiser's block as ONE function per output of a group's columns: every one of the 64 groups the body writes
   out is the same function of the row factor, the group's columns of `x` and the group's weights. -/
module

public import proofs.«01_k».proof.Proof.Gen.KernelIdeal.Frame
public import Idealize.ShloMosaic.Lib.Pipeline.Value

@[expose] public section

set_option maxRecDepth 200000

noncomputable section

namespace Cert.KernelIdeal.Quant

open Cert.KernelIdeal.Gen
open Idealize.ShloMosaic Idealize.SL.Sem

variable {F : FTy → Type} [FloatOps F]

/-- A group's normalised values: `x · r · w`. -/
def hG (r : FVec F S128x1 .f32) (xs : Vec F S128x128 .bf16) (ws : Vec F S1x128 .f32) : FVec F S128x128 .f32 :=
  mulf (mulf (extf .f32 (shapeCast S128x128 xs shapeCasts_S128x128_S128x128) bitsLt_bf16_f32)
    (broadcastTo S128x128 r broadcasts_S128x1_S128x128))
    (broadcastTo S128x128 (shapeCast S1x128 ws shapeCasts_S1x128_S1x128) broadcasts_S1x128_S128x128)

/-- A row's greatest magnitude over the group, times the constant nearest 1/448. -/
def qG (h : FVec F S128x128 .f32) : FVec F S128x1 .f32 :=
  mulf (shapeCast S128x1 (multiReduction .maximumf [1] S128 (absf h) 0xFF800000#32 reduces_S128x128_S128 (.inl rfl) rfl)
    shapeCasts_S128_S128x1) (broadcast S128x1 (Scalar.ofBits .f32 0x3B124925#32))

/-- The number of powers of two at most `q`, row by row. -/
def cntG (q : FVec F S128x1 .f32) : IVec S128x1 32 :=
  shapeCast S128x1 (multiReductionI .add [1] S128
    (select (cmpf .oge (broadcastTo S128x255 q broadcasts_S128x1_S128x255)
      (bitcastToFloat .f32 (shli (addi (iota .tc S128x255 32 [1] iota_S128x255_d1_w32) (broadcast S128x255 1#32))
        (broadcast S128x255 23#32)))) (broadcast S128x255 1#32) (broadcast S128x255 0#32))
    0#32 reduces_S128x255_S128 rfl) shapeCasts_S128_S128x1

/-- The scale's exponent field: 127 for a row of zeros, else one above the count. -/
def biasG (n : IVec S128x1 32) : IVec S128x1 32 :=
  select (cmpi .eq n (broadcast S128x1 0#32)) (broadcast S128x1 127#32) (addi n (broadcast S128x1 1#32))

/-- The scale from its exponent field. -/
def scaleG (b : IVec S128x1 32) : FVec F S128x1 .f32 := bitcastToFloat .f32 (shli b (broadcast S128x1 23#32))

/-- The scale's inverse from the scale's exponent field. -/
def invG (b : IVec S128x1 32) : FVec F S128x1 .f32 :=
  bitcastToFloat .f32 (shli (subi (broadcast S128x1 254#32) b) (broadcast S128x1 23#32))

/-- The codes: the scaled values clipped to ±448. -/
def codeG (h : FVec F S128x128 .f32) (inv : FVec F S128x1 .f32) : FVec F S128x128 .fp8e4m3 :=
  truncf .fp8e4m3 (minimumf (broadcast S128x128 (Scalar.ofBits .f32 0x43E00000#32))
    (maximumf (broadcast S128x128 (Scalar.ofBits .f32 0xC3E00000#32))
      (mulf h (broadcastTo S128x128 inv broadcasts_S128x1_S128x128)))) bitsLt_fp8e4m3_f32

/-- The codes scaled back. -/
def xaG (code : FVec F S128x128 .fp8e4m3) (scale : FVec F S128x1 .f32) : FVec F S128x128 .bf16 :=
  mulf (extf .bf16 code bitsLt_fp8e4m3_bf16)
    (broadcastTo S128x128 (truncf .bf16 scale bitsLt_bf16_f32) broadcasts_S128x1_S128x128)

/-- A group's outputs from the row factor and its columns. -/
def codeOf (r : FVec F S128x1 .f32) (xs : Vec F S128x128 .bf16) (ws : Vec F S1x128 .f32) : FVec F S128x128 .fp8e4m3 :=
  codeG (hG r xs ws) (invG (biasG (cntG (qG (hG r xs ws)))))
@[inherit_doc codeOf]
def scaleOf (r : FVec F S128x1 .f32) (xs : Vec F S128x128 .bf16) (ws : Vec F S1x128 .f32) : FVec F S128x1 .f32 :=
  scaleG (biasG (cntG (qG (hG r xs ws))))
@[inherit_doc codeOf]
def xaOf (r : FVec F S128x1 .f32) (xs : Vec F S128x128 .bf16) (ws : Vec F S1x128 .f32) : FVec F S128x128 .bf16 :=
  xaG (codeOf r xs ws) (scaleOf r xs ws)

/-- The row factor of a block: the reciprocal root of the mean square. -/
def rOf (x0 : Vec F S128x8192 .bf16) : FVec F S128x1 .f32 := k0_pay3 (View.ld x0 r0_0)

/-- One piece of codes, at the columns of group `g`. -/
theorem piece_code {x0 : Vec F S128x8192 .bf16} {x1 : Vec F S1x8192 .f32} {G : S128x8192.Idx → F .fp8e4m3}
    (hG : ∀ (g : Nat) (hx : ∀ a, (![0, 128 * g] : Fin 2 → Nat) a + S128x128.size a ≤ S128x8192.size a)
      (hw : ∀ a, (![0, 128 * g] : Fin 2 → Nat) a + S1x128.size a ≤ S1x8192.size a)
      (ho : ∀ a, (![0, 128 * g] : Fin 2 → Nat) a + S128x128.size a ≤ S128x8192.size a), ∀ x,
      codeOf (rOf x0) (View.ld x0 (Rect.unit (s := S128x8192) ![0, 128 * g] S128x128.size hx))
        (View.ld x1 (Rect.unit (s := S1x8192) ![0, 128 * g] S1x128.size hw)) x
        = G ((Rect.unit (s := S128x8192) ![0, 128 * g] S128x128.size ho).emb x))
    {o : Nat} (g : Nat) (e : o = 128 * g)
    (ho : ∀ a, (![0, o] : Fin 2 → Nat) a + S128x128.size a ≤ S128x8192.size a)
    (hx : ∀ a, (![0, o] : Fin 2 → Nat) a + S128x128.size a ≤ S128x8192.size a)
    (hw : ∀ a, (![0, o] : Fin 2 → Nat) a + S1x128.size a ≤ S1x8192.size a)
    {p : Vec F S128x128 .fp8e4m3}
    (hp : p = codeOf (rOf x0) (View.ld x0 (Rect.unit (s := S128x8192) ![0, o] S128x128.size hx))
        (View.ld x1 (Rect.unit (s := S1x8192) ![0, o] S1x128.size hw))) :
    ∀ x, p x = G ((Rect.unit (s := S128x8192) ![0, o] S128x128.size ho).emb x) := by
  subst e
  exact fun x => hp ▸ hG g hx hw ho x

set_option maxHeartbeats 8000000 in
/-- What the body leaves in the block of codes: a function that agrees with the group's one on every group. -/
theorem out0_2_apply (x0 : Vec F S128x8192 .bf16) (x1 : Vec F S1x8192 .f32) (G : S128x8192.Idx → F .fp8e4m3)
    (hG : ∀ (g : Nat) (hx : ∀ a, (![0, 128 * g] : Fin 2 → Nat) a + S128x128.size a ≤ S128x8192.size a)
      (hw : ∀ a, (![0, 128 * g] : Fin 2 → Nat) a + S1x128.size a ≤ S1x8192.size a)
      (ho : ∀ a, (![0, 128 * g] : Fin 2 → Nat) a + S128x128.size a ≤ S128x8192.size a), ∀ x,
      codeOf (rOf x0) (View.ld x0 (Rect.unit (s := S128x8192) ![0, 128 * g] S128x128.size hx))
        (View.ld x1 (Rect.unit (s := S1x8192) ![0, 128 * g] S1x128.size hw)) x
        = G ((Rect.unit (s := S128x8192) ![0, 128 * g] S128x128.size ho).emb x)) (y : S128x8192.Idx) :
    out0_2 x0 x1 y = G y := by
  unfold out0_2
  refine View.canon_apply_of_pieces (Val := Elt F) (S := S128x8192) (e := .fp8e4m3) G _ ?_ y ?_
  · refine List.forall_mem_cons.2 ⟨piece_code hG 63 (show 8064 = 128 * 63 from rfl) (by decide) (by decide) (by decide) rfl, ?_⟩
    refine List.forall_mem_cons.2 ⟨piece_code hG 62 (show 7936 = 128 * 62 from rfl) (by decide) (by decide) (by decide) rfl, ?_⟩
    refine List.forall_mem_cons.2 ⟨piece_code hG 61 (show 7808 = 128 * 61 from rfl) (by decide) (by decide) (by decide) rfl, ?_⟩
    refine List.forall_mem_cons.2 ⟨piece_code hG 60 (show 7680 = 128 * 60 from rfl) (by decide) (by decide) (by decide) rfl, ?_⟩
    refine List.forall_mem_cons.2 ⟨piece_code hG 59 (show 7552 = 128 * 59 from rfl) (by decide) (by decide) (by decide) rfl, ?_⟩
    refine List.forall_mem_cons.2 ⟨piece_code hG 58 (show 7424 = 128 * 58 from rfl) (by decide) (by decide) (by decide) rfl, ?_⟩
    refine List.forall_mem_cons.2 ⟨piece_code hG 57 (show 7296 = 128 * 57 from rfl) (by decide) (by decide) (by decide) rfl, ?_⟩
    refine List.forall_mem_cons.2 ⟨piece_code hG 56 (show 7168 = 128 * 56 from rfl) (by decide) (by decide) (by decide) rfl, ?_⟩
    refine List.forall_mem_cons.2 ⟨piece_code hG 55 (show 7040 = 128 * 55 from rfl) (by decide) (by decide) (by decide) rfl, ?_⟩
    refine List.forall_mem_cons.2 ⟨piece_code hG 54 (show 6912 = 128 * 54 from rfl) (by decide) (by decide) (by decide) rfl, ?_⟩
    refine List.forall_mem_cons.2 ⟨piece_code hG 53 (show 6784 = 128 * 53 from rfl) (by decide) (by decide) (by decide) rfl, ?_⟩
    refine List.forall_mem_cons.2 ⟨piece_code hG 52 (show 6656 = 128 * 52 from rfl) (by decide) (by decide) (by decide) rfl, ?_⟩
    refine List.forall_mem_cons.2 ⟨piece_code hG 51 (show 6528 = 128 * 51 from rfl) (by decide) (by decide) (by decide) rfl, ?_⟩
    refine List.forall_mem_cons.2 ⟨piece_code hG 50 (show 6400 = 128 * 50 from rfl) (by decide) (by decide) (by decide) rfl, ?_⟩
    refine List.forall_mem_cons.2 ⟨piece_code hG 49 (show 6272 = 128 * 49 from rfl) (by decide) (by decide) (by decide) rfl, ?_⟩
    refine List.forall_mem_cons.2 ⟨piece_code hG 48 (show 6144 = 128 * 48 from rfl) (by decide) (by decide) (by decide) rfl, ?_⟩
    refine List.forall_mem_cons.2 ⟨piece_code hG 47 (show 6016 = 128 * 47 from rfl) (by decide) (by decide) (by decide) rfl, ?_⟩
    refine List.forall_mem_cons.2 ⟨piece_code hG 46 (show 5888 = 128 * 46 from rfl) (by decide) (by decide) (by decide) rfl, ?_⟩
    refine List.forall_mem_cons.2 ⟨piece_code hG 45 (show 5760 = 128 * 45 from rfl) (by decide) (by decide) (by decide) rfl, ?_⟩
    refine List.forall_mem_cons.2 ⟨piece_code hG 44 (show 5632 = 128 * 44 from rfl) (by decide) (by decide) (by decide) rfl, ?_⟩
    refine List.forall_mem_cons.2 ⟨piece_code hG 43 (show 5504 = 128 * 43 from rfl) (by decide) (by decide) (by decide) rfl, ?_⟩
    refine List.forall_mem_cons.2 ⟨piece_code hG 42 (show 5376 = 128 * 42 from rfl) (by decide) (by decide) (by decide) rfl, ?_⟩
    refine List.forall_mem_cons.2 ⟨piece_code hG 41 (show 5248 = 128 * 41 from rfl) (by decide) (by decide) (by decide) rfl, ?_⟩
    refine List.forall_mem_cons.2 ⟨piece_code hG 40 (show 5120 = 128 * 40 from rfl) (by decide) (by decide) (by decide) rfl, ?_⟩
    refine List.forall_mem_cons.2 ⟨piece_code hG 39 (show 4992 = 128 * 39 from rfl) (by decide) (by decide) (by decide) rfl, ?_⟩
    refine List.forall_mem_cons.2 ⟨piece_code hG 38 (show 4864 = 128 * 38 from rfl) (by decide) (by decide) (by decide) rfl, ?_⟩
    refine List.forall_mem_cons.2 ⟨piece_code hG 37 (show 4736 = 128 * 37 from rfl) (by decide) (by decide) (by decide) rfl, ?_⟩
    refine List.forall_mem_cons.2 ⟨piece_code hG 36 (show 4608 = 128 * 36 from rfl) (by decide) (by decide) (by decide) rfl, ?_⟩
    refine List.forall_mem_cons.2 ⟨piece_code hG 35 (show 4480 = 128 * 35 from rfl) (by decide) (by decide) (by decide) rfl, ?_⟩
    refine List.forall_mem_cons.2 ⟨piece_code hG 34 (show 4352 = 128 * 34 from rfl) (by decide) (by decide) (by decide) rfl, ?_⟩
    refine List.forall_mem_cons.2 ⟨piece_code hG 33 (show 4224 = 128 * 33 from rfl) (by decide) (by decide) (by decide) rfl, ?_⟩
    refine List.forall_mem_cons.2 ⟨piece_code hG 32 (show 4096 = 128 * 32 from rfl) (by decide) (by decide) (by decide) rfl, ?_⟩
    refine List.forall_mem_cons.2 ⟨piece_code hG 31 (show 3968 = 128 * 31 from rfl) (by decide) (by decide) (by decide) rfl, ?_⟩
    refine List.forall_mem_cons.2 ⟨piece_code hG 30 (show 3840 = 128 * 30 from rfl) (by decide) (by decide) (by decide) rfl, ?_⟩
    refine List.forall_mem_cons.2 ⟨piece_code hG 29 (show 3712 = 128 * 29 from rfl) (by decide) (by decide) (by decide) rfl, ?_⟩
    refine List.forall_mem_cons.2 ⟨piece_code hG 28 (show 3584 = 128 * 28 from rfl) (by decide) (by decide) (by decide) rfl, ?_⟩
    refine List.forall_mem_cons.2 ⟨piece_code hG 27 (show 3456 = 128 * 27 from rfl) (by decide) (by decide) (by decide) rfl, ?_⟩
    refine List.forall_mem_cons.2 ⟨piece_code hG 26 (show 3328 = 128 * 26 from rfl) (by decide) (by decide) (by decide) rfl, ?_⟩
    refine List.forall_mem_cons.2 ⟨piece_code hG 25 (show 3200 = 128 * 25 from rfl) (by decide) (by decide) (by decide) rfl, ?_⟩
    refine List.forall_mem_cons.2 ⟨piece_code hG 24 (show 3072 = 128 * 24 from rfl) (by decide) (by decide) (by decide) rfl, ?_⟩
    refine List.forall_mem_cons.2 ⟨piece_code hG 23 (show 2944 = 128 * 23 from rfl) (by decide) (by decide) (by decide) rfl, ?_⟩
    refine List.forall_mem_cons.2 ⟨piece_code hG 22 (show 2816 = 128 * 22 from rfl) (by decide) (by decide) (by decide) rfl, ?_⟩
    refine List.forall_mem_cons.2 ⟨piece_code hG 21 (show 2688 = 128 * 21 from rfl) (by decide) (by decide) (by decide) rfl, ?_⟩
    refine List.forall_mem_cons.2 ⟨piece_code hG 20 (show 2560 = 128 * 20 from rfl) (by decide) (by decide) (by decide) rfl, ?_⟩
    refine List.forall_mem_cons.2 ⟨piece_code hG 19 (show 2432 = 128 * 19 from rfl) (by decide) (by decide) (by decide) rfl, ?_⟩
    refine List.forall_mem_cons.2 ⟨piece_code hG 18 (show 2304 = 128 * 18 from rfl) (by decide) (by decide) (by decide) rfl, ?_⟩
    refine List.forall_mem_cons.2 ⟨piece_code hG 17 (show 2176 = 128 * 17 from rfl) (by decide) (by decide) (by decide) rfl, ?_⟩
    refine List.forall_mem_cons.2 ⟨piece_code hG 16 (show 2048 = 128 * 16 from rfl) (by decide) (by decide) (by decide) rfl, ?_⟩
    refine List.forall_mem_cons.2 ⟨piece_code hG 15 (show 1920 = 128 * 15 from rfl) (by decide) (by decide) (by decide) rfl, ?_⟩
    refine List.forall_mem_cons.2 ⟨piece_code hG 14 (show 1792 = 128 * 14 from rfl) (by decide) (by decide) (by decide) rfl, ?_⟩
    refine List.forall_mem_cons.2 ⟨piece_code hG 13 (show 1664 = 128 * 13 from rfl) (by decide) (by decide) (by decide) rfl, ?_⟩
    refine List.forall_mem_cons.2 ⟨piece_code hG 12 (show 1536 = 128 * 12 from rfl) (by decide) (by decide) (by decide) rfl, ?_⟩
    refine List.forall_mem_cons.2 ⟨piece_code hG 11 (show 1408 = 128 * 11 from rfl) (by decide) (by decide) (by decide) rfl, ?_⟩
    refine List.forall_mem_cons.2 ⟨piece_code hG 10 (show 1280 = 128 * 10 from rfl) (by decide) (by decide) (by decide) rfl, ?_⟩
    refine List.forall_mem_cons.2 ⟨piece_code hG 9 (show 1152 = 128 * 9 from rfl) (by decide) (by decide) (by decide) rfl, ?_⟩
    refine List.forall_mem_cons.2 ⟨piece_code hG 8 (show 1024 = 128 * 8 from rfl) (by decide) (by decide) (by decide) rfl, ?_⟩
    refine List.forall_mem_cons.2 ⟨piece_code hG 7 (show 896 = 128 * 7 from rfl) (by decide) (by decide) (by decide) rfl, ?_⟩
    refine List.forall_mem_cons.2 ⟨piece_code hG 6 (show 768 = 128 * 6 from rfl) (by decide) (by decide) (by decide) rfl, ?_⟩
    refine List.forall_mem_cons.2 ⟨piece_code hG 5 (show 640 = 128 * 5 from rfl) (by decide) (by decide) (by decide) rfl, ?_⟩
    refine List.forall_mem_cons.2 ⟨piece_code hG 4 (show 512 = 128 * 4 from rfl) (by decide) (by decide) (by decide) rfl, ?_⟩
    refine List.forall_mem_cons.2 ⟨piece_code hG 3 (show 384 = 128 * 3 from rfl) (by decide) (by decide) (by decide) rfl, ?_⟩
    refine List.forall_mem_cons.2 ⟨piece_code hG 2 (show 256 = 128 * 2 from rfl) (by decide) (by decide) (by decide) rfl, ?_⟩
    refine List.forall_mem_cons.2 ⟨piece_code hG 1 (show 128 = 128 * 1 from rfl) (by decide) (by decide) (by decide) rfl, ?_⟩
    refine List.forall_mem_cons.2 ⟨piece_code hG 0 (show 0 = 128 * 0 from rfl) (by decide) (by decide) (by decide) rfl, ?_⟩
    exact List.forall_mem_nil _
  · apply cover0_2

/-- One piece of scales, at the columns of group `g`. -/
theorem piece_scale {x0 : Vec F S128x8192 .bf16} {x1 : Vec F S1x8192 .f32} {G : S128x64.Idx → F .f32}
    (hG : ∀ (g : Nat) (hx : ∀ a, (![0, 128 * g] : Fin 2 → Nat) a + S128x128.size a ≤ S128x8192.size a)
      (hw : ∀ a, (![0, 128 * g] : Fin 2 → Nat) a + S1x128.size a ≤ S1x8192.size a)
      (ho : ∀ a, (![0, g] : Fin 2 → Nat) a + S128x1.size a ≤ S128x64.size a), ∀ x,
      scaleOf (rOf x0) (View.ld x0 (Rect.unit (s := S128x8192) ![0, 128 * g] S128x128.size hx))
        (View.ld x1 (Rect.unit (s := S1x8192) ![0, 128 * g] S1x128.size hw)) x
        = G ((Rect.unit (s := S128x64) ![0, g] S128x1.size ho).emb x))
    {g : Nat} (o : Nat) (e : o = 128 * g)
    (ho : ∀ a, (![0, g] : Fin 2 → Nat) a + S128x1.size a ≤ S128x64.size a)
    (hx : ∀ a, (![0, o] : Fin 2 → Nat) a + S128x128.size a ≤ S128x8192.size a)
    (hw : ∀ a, (![0, o] : Fin 2 → Nat) a + S1x128.size a ≤ S1x8192.size a)
    {p : Vec F S128x1 .f32}
    (hp : p = scaleOf (rOf x0) (View.ld x0 (Rect.unit (s := S128x8192) ![0, o] S128x128.size hx))
        (View.ld x1 (Rect.unit (s := S1x8192) ![0, o] S1x128.size hw))) :
    ∀ x, p x = G ((Rect.unit (s := S128x64) ![0, g] S128x1.size ho).emb x) := by
  subst e
  exact fun x => hp ▸ hG g hx hw ho x

set_option maxHeartbeats 8000000 in
/-- What the body leaves in the block of scales: a function that agrees with the group's one on every group. -/
theorem out0_3_apply (x0 : Vec F S128x8192 .bf16) (x1 : Vec F S1x8192 .f32) (G : S128x64.Idx → F .f32)
    (hG : ∀ (g : Nat) (hx : ∀ a, (![0, 128 * g] : Fin 2 → Nat) a + S128x128.size a ≤ S128x8192.size a)
      (hw : ∀ a, (![0, 128 * g] : Fin 2 → Nat) a + S1x128.size a ≤ S1x8192.size a)
      (ho : ∀ a, (![0, g] : Fin 2 → Nat) a + S128x1.size a ≤ S128x64.size a), ∀ x,
      scaleOf (rOf x0) (View.ld x0 (Rect.unit (s := S128x8192) ![0, 128 * g] S128x128.size hx))
        (View.ld x1 (Rect.unit (s := S1x8192) ![0, 128 * g] S1x128.size hw)) x
        = G ((Rect.unit (s := S128x64) ![0, g] S128x1.size ho).emb x)) (y : S128x64.Idx) :
    out0_3 x0 x1 y = G y := by
  unfold out0_3
  refine View.canon_apply_of_pieces (Val := Elt F) (S := S128x64) (e := .f32) G _ ?_ y ?_
  · refine List.forall_mem_cons.2 ⟨piece_scale hG 8064 (show 8064 = 128 * 63 from rfl) (by decide) (by decide) (by decide) rfl, ?_⟩
    refine List.forall_mem_cons.2 ⟨piece_scale hG 7936 (show 7936 = 128 * 62 from rfl) (by decide) (by decide) (by decide) rfl, ?_⟩
    refine List.forall_mem_cons.2 ⟨piece_scale hG 7808 (show 7808 = 128 * 61 from rfl) (by decide) (by decide) (by decide) rfl, ?_⟩
    refine List.forall_mem_cons.2 ⟨piece_scale hG 7680 (show 7680 = 128 * 60 from rfl) (by decide) (by decide) (by decide) rfl, ?_⟩
    refine List.forall_mem_cons.2 ⟨piece_scale hG 7552 (show 7552 = 128 * 59 from rfl) (by decide) (by decide) (by decide) rfl, ?_⟩
    refine List.forall_mem_cons.2 ⟨piece_scale hG 7424 (show 7424 = 128 * 58 from rfl) (by decide) (by decide) (by decide) rfl, ?_⟩
    refine List.forall_mem_cons.2 ⟨piece_scale hG 7296 (show 7296 = 128 * 57 from rfl) (by decide) (by decide) (by decide) rfl, ?_⟩
    refine List.forall_mem_cons.2 ⟨piece_scale hG 7168 (show 7168 = 128 * 56 from rfl) (by decide) (by decide) (by decide) rfl, ?_⟩
    refine List.forall_mem_cons.2 ⟨piece_scale hG 7040 (show 7040 = 128 * 55 from rfl) (by decide) (by decide) (by decide) rfl, ?_⟩
    refine List.forall_mem_cons.2 ⟨piece_scale hG 6912 (show 6912 = 128 * 54 from rfl) (by decide) (by decide) (by decide) rfl, ?_⟩
    refine List.forall_mem_cons.2 ⟨piece_scale hG 6784 (show 6784 = 128 * 53 from rfl) (by decide) (by decide) (by decide) rfl, ?_⟩
    refine List.forall_mem_cons.2 ⟨piece_scale hG 6656 (show 6656 = 128 * 52 from rfl) (by decide) (by decide) (by decide) rfl, ?_⟩
    refine List.forall_mem_cons.2 ⟨piece_scale hG 6528 (show 6528 = 128 * 51 from rfl) (by decide) (by decide) (by decide) rfl, ?_⟩
    refine List.forall_mem_cons.2 ⟨piece_scale hG 6400 (show 6400 = 128 * 50 from rfl) (by decide) (by decide) (by decide) rfl, ?_⟩
    refine List.forall_mem_cons.2 ⟨piece_scale hG 6272 (show 6272 = 128 * 49 from rfl) (by decide) (by decide) (by decide) rfl, ?_⟩
    refine List.forall_mem_cons.2 ⟨piece_scale hG 6144 (show 6144 = 128 * 48 from rfl) (by decide) (by decide) (by decide) rfl, ?_⟩
    refine List.forall_mem_cons.2 ⟨piece_scale hG 6016 (show 6016 = 128 * 47 from rfl) (by decide) (by decide) (by decide) rfl, ?_⟩
    refine List.forall_mem_cons.2 ⟨piece_scale hG 5888 (show 5888 = 128 * 46 from rfl) (by decide) (by decide) (by decide) rfl, ?_⟩
    refine List.forall_mem_cons.2 ⟨piece_scale hG 5760 (show 5760 = 128 * 45 from rfl) (by decide) (by decide) (by decide) rfl, ?_⟩
    refine List.forall_mem_cons.2 ⟨piece_scale hG 5632 (show 5632 = 128 * 44 from rfl) (by decide) (by decide) (by decide) rfl, ?_⟩
    refine List.forall_mem_cons.2 ⟨piece_scale hG 5504 (show 5504 = 128 * 43 from rfl) (by decide) (by decide) (by decide) rfl, ?_⟩
    refine List.forall_mem_cons.2 ⟨piece_scale hG 5376 (show 5376 = 128 * 42 from rfl) (by decide) (by decide) (by decide) rfl, ?_⟩
    refine List.forall_mem_cons.2 ⟨piece_scale hG 5248 (show 5248 = 128 * 41 from rfl) (by decide) (by decide) (by decide) rfl, ?_⟩
    refine List.forall_mem_cons.2 ⟨piece_scale hG 5120 (show 5120 = 128 * 40 from rfl) (by decide) (by decide) (by decide) rfl, ?_⟩
    refine List.forall_mem_cons.2 ⟨piece_scale hG 4992 (show 4992 = 128 * 39 from rfl) (by decide) (by decide) (by decide) rfl, ?_⟩
    refine List.forall_mem_cons.2 ⟨piece_scale hG 4864 (show 4864 = 128 * 38 from rfl) (by decide) (by decide) (by decide) rfl, ?_⟩
    refine List.forall_mem_cons.2 ⟨piece_scale hG 4736 (show 4736 = 128 * 37 from rfl) (by decide) (by decide) (by decide) rfl, ?_⟩
    refine List.forall_mem_cons.2 ⟨piece_scale hG 4608 (show 4608 = 128 * 36 from rfl) (by decide) (by decide) (by decide) rfl, ?_⟩
    refine List.forall_mem_cons.2 ⟨piece_scale hG 4480 (show 4480 = 128 * 35 from rfl) (by decide) (by decide) (by decide) rfl, ?_⟩
    refine List.forall_mem_cons.2 ⟨piece_scale hG 4352 (show 4352 = 128 * 34 from rfl) (by decide) (by decide) (by decide) rfl, ?_⟩
    refine List.forall_mem_cons.2 ⟨piece_scale hG 4224 (show 4224 = 128 * 33 from rfl) (by decide) (by decide) (by decide) rfl, ?_⟩
    refine List.forall_mem_cons.2 ⟨piece_scale hG 4096 (show 4096 = 128 * 32 from rfl) (by decide) (by decide) (by decide) rfl, ?_⟩
    refine List.forall_mem_cons.2 ⟨piece_scale hG 3968 (show 3968 = 128 * 31 from rfl) (by decide) (by decide) (by decide) rfl, ?_⟩
    refine List.forall_mem_cons.2 ⟨piece_scale hG 3840 (show 3840 = 128 * 30 from rfl) (by decide) (by decide) (by decide) rfl, ?_⟩
    refine List.forall_mem_cons.2 ⟨piece_scale hG 3712 (show 3712 = 128 * 29 from rfl) (by decide) (by decide) (by decide) rfl, ?_⟩
    refine List.forall_mem_cons.2 ⟨piece_scale hG 3584 (show 3584 = 128 * 28 from rfl) (by decide) (by decide) (by decide) rfl, ?_⟩
    refine List.forall_mem_cons.2 ⟨piece_scale hG 3456 (show 3456 = 128 * 27 from rfl) (by decide) (by decide) (by decide) rfl, ?_⟩
    refine List.forall_mem_cons.2 ⟨piece_scale hG 3328 (show 3328 = 128 * 26 from rfl) (by decide) (by decide) (by decide) rfl, ?_⟩
    refine List.forall_mem_cons.2 ⟨piece_scale hG 3200 (show 3200 = 128 * 25 from rfl) (by decide) (by decide) (by decide) rfl, ?_⟩
    refine List.forall_mem_cons.2 ⟨piece_scale hG 3072 (show 3072 = 128 * 24 from rfl) (by decide) (by decide) (by decide) rfl, ?_⟩
    refine List.forall_mem_cons.2 ⟨piece_scale hG 2944 (show 2944 = 128 * 23 from rfl) (by decide) (by decide) (by decide) rfl, ?_⟩
    refine List.forall_mem_cons.2 ⟨piece_scale hG 2816 (show 2816 = 128 * 22 from rfl) (by decide) (by decide) (by decide) rfl, ?_⟩
    refine List.forall_mem_cons.2 ⟨piece_scale hG 2688 (show 2688 = 128 * 21 from rfl) (by decide) (by decide) (by decide) rfl, ?_⟩
    refine List.forall_mem_cons.2 ⟨piece_scale hG 2560 (show 2560 = 128 * 20 from rfl) (by decide) (by decide) (by decide) rfl, ?_⟩
    refine List.forall_mem_cons.2 ⟨piece_scale hG 2432 (show 2432 = 128 * 19 from rfl) (by decide) (by decide) (by decide) rfl, ?_⟩
    refine List.forall_mem_cons.2 ⟨piece_scale hG 2304 (show 2304 = 128 * 18 from rfl) (by decide) (by decide) (by decide) rfl, ?_⟩
    refine List.forall_mem_cons.2 ⟨piece_scale hG 2176 (show 2176 = 128 * 17 from rfl) (by decide) (by decide) (by decide) rfl, ?_⟩
    refine List.forall_mem_cons.2 ⟨piece_scale hG 2048 (show 2048 = 128 * 16 from rfl) (by decide) (by decide) (by decide) rfl, ?_⟩
    refine List.forall_mem_cons.2 ⟨piece_scale hG 1920 (show 1920 = 128 * 15 from rfl) (by decide) (by decide) (by decide) rfl, ?_⟩
    refine List.forall_mem_cons.2 ⟨piece_scale hG 1792 (show 1792 = 128 * 14 from rfl) (by decide) (by decide) (by decide) rfl, ?_⟩
    refine List.forall_mem_cons.2 ⟨piece_scale hG 1664 (show 1664 = 128 * 13 from rfl) (by decide) (by decide) (by decide) rfl, ?_⟩
    refine List.forall_mem_cons.2 ⟨piece_scale hG 1536 (show 1536 = 128 * 12 from rfl) (by decide) (by decide) (by decide) rfl, ?_⟩
    refine List.forall_mem_cons.2 ⟨piece_scale hG 1408 (show 1408 = 128 * 11 from rfl) (by decide) (by decide) (by decide) rfl, ?_⟩
    refine List.forall_mem_cons.2 ⟨piece_scale hG 1280 (show 1280 = 128 * 10 from rfl) (by decide) (by decide) (by decide) rfl, ?_⟩
    refine List.forall_mem_cons.2 ⟨piece_scale hG 1152 (show 1152 = 128 * 9 from rfl) (by decide) (by decide) (by decide) rfl, ?_⟩
    refine List.forall_mem_cons.2 ⟨piece_scale hG 1024 (show 1024 = 128 * 8 from rfl) (by decide) (by decide) (by decide) rfl, ?_⟩
    refine List.forall_mem_cons.2 ⟨piece_scale hG 896 (show 896 = 128 * 7 from rfl) (by decide) (by decide) (by decide) rfl, ?_⟩
    refine List.forall_mem_cons.2 ⟨piece_scale hG 768 (show 768 = 128 * 6 from rfl) (by decide) (by decide) (by decide) rfl, ?_⟩
    refine List.forall_mem_cons.2 ⟨piece_scale hG 640 (show 640 = 128 * 5 from rfl) (by decide) (by decide) (by decide) rfl, ?_⟩
    refine List.forall_mem_cons.2 ⟨piece_scale hG 512 (show 512 = 128 * 4 from rfl) (by decide) (by decide) (by decide) rfl, ?_⟩
    refine List.forall_mem_cons.2 ⟨piece_scale hG 384 (show 384 = 128 * 3 from rfl) (by decide) (by decide) (by decide) rfl, ?_⟩
    refine List.forall_mem_cons.2 ⟨piece_scale hG 256 (show 256 = 128 * 2 from rfl) (by decide) (by decide) (by decide) rfl, ?_⟩
    refine List.forall_mem_cons.2 ⟨piece_scale hG 128 (show 128 = 128 * 1 from rfl) (by decide) (by decide) (by decide) rfl, ?_⟩
    refine List.forall_mem_cons.2 ⟨piece_scale hG 0 (show 0 = 128 * 0 from rfl) (by decide) (by decide) (by decide) rfl, ?_⟩
    exact List.forall_mem_nil _
  · apply cover0_3

/-- One piece of codes scaled back, at the columns of group `g`. -/
theorem piece_xa {x0 : Vec F S128x8192 .bf16} {x1 : Vec F S1x8192 .f32} {G : S128x8192.Idx → F .bf16}
    (hG : ∀ (g : Nat) (hx : ∀ a, (![0, 128 * g] : Fin 2 → Nat) a + S128x128.size a ≤ S128x8192.size a)
      (hw : ∀ a, (![0, 128 * g] : Fin 2 → Nat) a + S1x128.size a ≤ S1x8192.size a)
      (ho : ∀ a, (![0, 128 * g] : Fin 2 → Nat) a + S128x128.size a ≤ S128x8192.size a), ∀ x,
      xaOf (rOf x0) (View.ld x0 (Rect.unit (s := S128x8192) ![0, 128 * g] S128x128.size hx))
        (View.ld x1 (Rect.unit (s := S1x8192) ![0, 128 * g] S1x128.size hw)) x
        = G ((Rect.unit (s := S128x8192) ![0, 128 * g] S128x128.size ho).emb x))
    {o : Nat} (g : Nat) (e : o = 128 * g)
    (ho : ∀ a, (![0, o] : Fin 2 → Nat) a + S128x128.size a ≤ S128x8192.size a)
    (hx : ∀ a, (![0, o] : Fin 2 → Nat) a + S128x128.size a ≤ S128x8192.size a)
    (hw : ∀ a, (![0, o] : Fin 2 → Nat) a + S1x128.size a ≤ S1x8192.size a)
    {p : Vec F S128x128 .bf16}
    (hp : p = xaOf (rOf x0) (View.ld x0 (Rect.unit (s := S128x8192) ![0, o] S128x128.size hx))
        (View.ld x1 (Rect.unit (s := S1x8192) ![0, o] S1x128.size hw))) :
    ∀ x, p x = G ((Rect.unit (s := S128x8192) ![0, o] S128x128.size ho).emb x) := by
  subst e
  exact fun x => hp ▸ hG g hx hw ho x

set_option maxHeartbeats 8000000 in
/-- What the body leaves in the block of codes scaled back: a function that agrees with the group's one on every group. -/
theorem out0_4_apply (x0 : Vec F S128x8192 .bf16) (x1 : Vec F S1x8192 .f32) (G : S128x8192.Idx → F .bf16)
    (hG : ∀ (g : Nat) (hx : ∀ a, (![0, 128 * g] : Fin 2 → Nat) a + S128x128.size a ≤ S128x8192.size a)
      (hw : ∀ a, (![0, 128 * g] : Fin 2 → Nat) a + S1x128.size a ≤ S1x8192.size a)
      (ho : ∀ a, (![0, 128 * g] : Fin 2 → Nat) a + S128x128.size a ≤ S128x8192.size a), ∀ x,
      xaOf (rOf x0) (View.ld x0 (Rect.unit (s := S128x8192) ![0, 128 * g] S128x128.size hx))
        (View.ld x1 (Rect.unit (s := S1x8192) ![0, 128 * g] S1x128.size hw)) x
        = G ((Rect.unit (s := S128x8192) ![0, 128 * g] S128x128.size ho).emb x)) (y : S128x8192.Idx) :
    out0_4 x0 x1 y = G y := by
  unfold out0_4
  refine View.canon_apply_of_pieces (Val := Elt F) (S := S128x8192) (e := .bf16) G _ ?_ y ?_
  · refine List.forall_mem_cons.2 ⟨piece_xa hG 63 (show 8064 = 128 * 63 from rfl) (by decide) (by decide) (by decide) rfl, ?_⟩
    refine List.forall_mem_cons.2 ⟨piece_xa hG 62 (show 7936 = 128 * 62 from rfl) (by decide) (by decide) (by decide) rfl, ?_⟩
    refine List.forall_mem_cons.2 ⟨piece_xa hG 61 (show 7808 = 128 * 61 from rfl) (by decide) (by decide) (by decide) rfl, ?_⟩
    refine List.forall_mem_cons.2 ⟨piece_xa hG 60 (show 7680 = 128 * 60 from rfl) (by decide) (by decide) (by decide) rfl, ?_⟩
    refine List.forall_mem_cons.2 ⟨piece_xa hG 59 (show 7552 = 128 * 59 from rfl) (by decide) (by decide) (by decide) rfl, ?_⟩
    refine List.forall_mem_cons.2 ⟨piece_xa hG 58 (show 7424 = 128 * 58 from rfl) (by decide) (by decide) (by decide) rfl, ?_⟩
    refine List.forall_mem_cons.2 ⟨piece_xa hG 57 (show 7296 = 128 * 57 from rfl) (by decide) (by decide) (by decide) rfl, ?_⟩
    refine List.forall_mem_cons.2 ⟨piece_xa hG 56 (show 7168 = 128 * 56 from rfl) (by decide) (by decide) (by decide) rfl, ?_⟩
    refine List.forall_mem_cons.2 ⟨piece_xa hG 55 (show 7040 = 128 * 55 from rfl) (by decide) (by decide) (by decide) rfl, ?_⟩
    refine List.forall_mem_cons.2 ⟨piece_xa hG 54 (show 6912 = 128 * 54 from rfl) (by decide) (by decide) (by decide) rfl, ?_⟩
    refine List.forall_mem_cons.2 ⟨piece_xa hG 53 (show 6784 = 128 * 53 from rfl) (by decide) (by decide) (by decide) rfl, ?_⟩
    refine List.forall_mem_cons.2 ⟨piece_xa hG 52 (show 6656 = 128 * 52 from rfl) (by decide) (by decide) (by decide) rfl, ?_⟩
    refine List.forall_mem_cons.2 ⟨piece_xa hG 51 (show 6528 = 128 * 51 from rfl) (by decide) (by decide) (by decide) rfl, ?_⟩
    refine List.forall_mem_cons.2 ⟨piece_xa hG 50 (show 6400 = 128 * 50 from rfl) (by decide) (by decide) (by decide) rfl, ?_⟩
    refine List.forall_mem_cons.2 ⟨piece_xa hG 49 (show 6272 = 128 * 49 from rfl) (by decide) (by decide) (by decide) rfl, ?_⟩
    refine List.forall_mem_cons.2 ⟨piece_xa hG 48 (show 6144 = 128 * 48 from rfl) (by decide) (by decide) (by decide) rfl, ?_⟩
    refine List.forall_mem_cons.2 ⟨piece_xa hG 47 (show 6016 = 128 * 47 from rfl) (by decide) (by decide) (by decide) rfl, ?_⟩
    refine List.forall_mem_cons.2 ⟨piece_xa hG 46 (show 5888 = 128 * 46 from rfl) (by decide) (by decide) (by decide) rfl, ?_⟩
    refine List.forall_mem_cons.2 ⟨piece_xa hG 45 (show 5760 = 128 * 45 from rfl) (by decide) (by decide) (by decide) rfl, ?_⟩
    refine List.forall_mem_cons.2 ⟨piece_xa hG 44 (show 5632 = 128 * 44 from rfl) (by decide) (by decide) (by decide) rfl, ?_⟩
    refine List.forall_mem_cons.2 ⟨piece_xa hG 43 (show 5504 = 128 * 43 from rfl) (by decide) (by decide) (by decide) rfl, ?_⟩
    refine List.forall_mem_cons.2 ⟨piece_xa hG 42 (show 5376 = 128 * 42 from rfl) (by decide) (by decide) (by decide) rfl, ?_⟩
    refine List.forall_mem_cons.2 ⟨piece_xa hG 41 (show 5248 = 128 * 41 from rfl) (by decide) (by decide) (by decide) rfl, ?_⟩
    refine List.forall_mem_cons.2 ⟨piece_xa hG 40 (show 5120 = 128 * 40 from rfl) (by decide) (by decide) (by decide) rfl, ?_⟩
    refine List.forall_mem_cons.2 ⟨piece_xa hG 39 (show 4992 = 128 * 39 from rfl) (by decide) (by decide) (by decide) rfl, ?_⟩
    refine List.forall_mem_cons.2 ⟨piece_xa hG 38 (show 4864 = 128 * 38 from rfl) (by decide) (by decide) (by decide) rfl, ?_⟩
    refine List.forall_mem_cons.2 ⟨piece_xa hG 37 (show 4736 = 128 * 37 from rfl) (by decide) (by decide) (by decide) rfl, ?_⟩
    refine List.forall_mem_cons.2 ⟨piece_xa hG 36 (show 4608 = 128 * 36 from rfl) (by decide) (by decide) (by decide) rfl, ?_⟩
    refine List.forall_mem_cons.2 ⟨piece_xa hG 35 (show 4480 = 128 * 35 from rfl) (by decide) (by decide) (by decide) rfl, ?_⟩
    refine List.forall_mem_cons.2 ⟨piece_xa hG 34 (show 4352 = 128 * 34 from rfl) (by decide) (by decide) (by decide) rfl, ?_⟩
    refine List.forall_mem_cons.2 ⟨piece_xa hG 33 (show 4224 = 128 * 33 from rfl) (by decide) (by decide) (by decide) rfl, ?_⟩
    refine List.forall_mem_cons.2 ⟨piece_xa hG 32 (show 4096 = 128 * 32 from rfl) (by decide) (by decide) (by decide) rfl, ?_⟩
    refine List.forall_mem_cons.2 ⟨piece_xa hG 31 (show 3968 = 128 * 31 from rfl) (by decide) (by decide) (by decide) rfl, ?_⟩
    refine List.forall_mem_cons.2 ⟨piece_xa hG 30 (show 3840 = 128 * 30 from rfl) (by decide) (by decide) (by decide) rfl, ?_⟩
    refine List.forall_mem_cons.2 ⟨piece_xa hG 29 (show 3712 = 128 * 29 from rfl) (by decide) (by decide) (by decide) rfl, ?_⟩
    refine List.forall_mem_cons.2 ⟨piece_xa hG 28 (show 3584 = 128 * 28 from rfl) (by decide) (by decide) (by decide) rfl, ?_⟩
    refine List.forall_mem_cons.2 ⟨piece_xa hG 27 (show 3456 = 128 * 27 from rfl) (by decide) (by decide) (by decide) rfl, ?_⟩
    refine List.forall_mem_cons.2 ⟨piece_xa hG 26 (show 3328 = 128 * 26 from rfl) (by decide) (by decide) (by decide) rfl, ?_⟩
    refine List.forall_mem_cons.2 ⟨piece_xa hG 25 (show 3200 = 128 * 25 from rfl) (by decide) (by decide) (by decide) rfl, ?_⟩
    refine List.forall_mem_cons.2 ⟨piece_xa hG 24 (show 3072 = 128 * 24 from rfl) (by decide) (by decide) (by decide) rfl, ?_⟩
    refine List.forall_mem_cons.2 ⟨piece_xa hG 23 (show 2944 = 128 * 23 from rfl) (by decide) (by decide) (by decide) rfl, ?_⟩
    refine List.forall_mem_cons.2 ⟨piece_xa hG 22 (show 2816 = 128 * 22 from rfl) (by decide) (by decide) (by decide) rfl, ?_⟩
    refine List.forall_mem_cons.2 ⟨piece_xa hG 21 (show 2688 = 128 * 21 from rfl) (by decide) (by decide) (by decide) rfl, ?_⟩
    refine List.forall_mem_cons.2 ⟨piece_xa hG 20 (show 2560 = 128 * 20 from rfl) (by decide) (by decide) (by decide) rfl, ?_⟩
    refine List.forall_mem_cons.2 ⟨piece_xa hG 19 (show 2432 = 128 * 19 from rfl) (by decide) (by decide) (by decide) rfl, ?_⟩
    refine List.forall_mem_cons.2 ⟨piece_xa hG 18 (show 2304 = 128 * 18 from rfl) (by decide) (by decide) (by decide) rfl, ?_⟩
    refine List.forall_mem_cons.2 ⟨piece_xa hG 17 (show 2176 = 128 * 17 from rfl) (by decide) (by decide) (by decide) rfl, ?_⟩
    refine List.forall_mem_cons.2 ⟨piece_xa hG 16 (show 2048 = 128 * 16 from rfl) (by decide) (by decide) (by decide) rfl, ?_⟩
    refine List.forall_mem_cons.2 ⟨piece_xa hG 15 (show 1920 = 128 * 15 from rfl) (by decide) (by decide) (by decide) rfl, ?_⟩
    refine List.forall_mem_cons.2 ⟨piece_xa hG 14 (show 1792 = 128 * 14 from rfl) (by decide) (by decide) (by decide) rfl, ?_⟩
    refine List.forall_mem_cons.2 ⟨piece_xa hG 13 (show 1664 = 128 * 13 from rfl) (by decide) (by decide) (by decide) rfl, ?_⟩
    refine List.forall_mem_cons.2 ⟨piece_xa hG 12 (show 1536 = 128 * 12 from rfl) (by decide) (by decide) (by decide) rfl, ?_⟩
    refine List.forall_mem_cons.2 ⟨piece_xa hG 11 (show 1408 = 128 * 11 from rfl) (by decide) (by decide) (by decide) rfl, ?_⟩
    refine List.forall_mem_cons.2 ⟨piece_xa hG 10 (show 1280 = 128 * 10 from rfl) (by decide) (by decide) (by decide) rfl, ?_⟩
    refine List.forall_mem_cons.2 ⟨piece_xa hG 9 (show 1152 = 128 * 9 from rfl) (by decide) (by decide) (by decide) rfl, ?_⟩
    refine List.forall_mem_cons.2 ⟨piece_xa hG 8 (show 1024 = 128 * 8 from rfl) (by decide) (by decide) (by decide) rfl, ?_⟩
    refine List.forall_mem_cons.2 ⟨piece_xa hG 7 (show 896 = 128 * 7 from rfl) (by decide) (by decide) (by decide) rfl, ?_⟩
    refine List.forall_mem_cons.2 ⟨piece_xa hG 6 (show 768 = 128 * 6 from rfl) (by decide) (by decide) (by decide) rfl, ?_⟩
    refine List.forall_mem_cons.2 ⟨piece_xa hG 5 (show 640 = 128 * 5 from rfl) (by decide) (by decide) (by decide) rfl, ?_⟩
    refine List.forall_mem_cons.2 ⟨piece_xa hG 4 (show 512 = 128 * 4 from rfl) (by decide) (by decide) (by decide) rfl, ?_⟩
    refine List.forall_mem_cons.2 ⟨piece_xa hG 3 (show 384 = 128 * 3 from rfl) (by decide) (by decide) (by decide) rfl, ?_⟩
    refine List.forall_mem_cons.2 ⟨piece_xa hG 2 (show 256 = 128 * 2 from rfl) (by decide) (by decide) (by decide) rfl, ?_⟩
    refine List.forall_mem_cons.2 ⟨piece_xa hG 1 (show 128 = 128 * 1 from rfl) (by decide) (by decide) (by decide) rfl, ?_⟩
    refine List.forall_mem_cons.2 ⟨piece_xa hG 0 (show 0 = 128 * 0 from rfl) (by decide) (by decide) (by decide) rfl, ?_⟩
    exact List.forall_mem_nil _
  · apply cover0_4

end Cert.KernelIdeal.Quant

end
-- ==== Proof.QuantValue.lean ====
/- The quantiser's group functions read on extended reals, element by element. -/
module

public import proofs.«01_k».proof.Proof.QuantPieces
public import proofs.«01_k».proof.Proof.Spec
public import Idealize.ShloMosaic.Lib.ValueIdx
public import Idealize.ShloMosaic.Lib.WordSum
public import Idealize.ShloMosaic.Lib.Pipeline.Value

@[expose] public section

set_option maxRecDepth 16384

noncomputable section

namespace Cert.KernelIdeal.Quant

open Cert.KernelIdeal.Gen Cert.Spec
open Idealize.ShloMosaic Idealize.ShloMosaic.ValueIdx Idealize.SL.Sem
open scoped BigOperators

/-- A column of row values, broadcast along the rows. -/
theorem bcast_col {α : Type} {n : Nat} (r : S128x1.Idx → α) (h : S128x1.Broadcasts ⟨2, ![128, n]⟩) (a : Fin 128) (b : Fin n) :
    broadcastTo ⟨2, ![128, n]⟩ r h (ix2 a b) = r (ix2 a 0) :=
  broadcastTo_apply r h _ _ fun c => by match c with | ⟨0, _⟩ => rfl | ⟨1, _⟩ => rfl

theorem bcast_row {α : Type} (r : S1x128.Idx → α) (h : S1x128.Broadcasts S128x128) (a : Fin 128) (b : Fin 128) :
    broadcastTo S128x128 r h (ix2 a b) = r (ix2 0 b) :=
  broadcastTo_apply r h _ _ fun c => by match c with | ⟨0, _⟩ => rfl | ⟨1, _⟩ => rfl

/-- A row of values as a column. -/
theorem cast_col {α : Type} (r : S128.Idx → α) (h : S128.ShapeCasts S128x1) (a : Fin 128) :
    shapeCast S128x1 r h (ix2 a 0) = r (ix1 a) :=
  shapeCast_apply r h _ _ (by rw [Shape.rowMajor_val_one, Shape.rowMajor_val_two]; simp [S128x1])

theorem hG_apply (r : FVec Ideal S128x1 .f32) (xs : Vec Ideal S128x128 .bf16) (ws : Vec Ideal S1x128 .f32) (a b : Fin 128) :
    hG r xs ws (ix2 a b) = xs (ix2 a b) * r (ix2 a 0) * ws (ix2 0 b) := by
  unfold hG
  rw [shapeCast_self, shapeCast_self, mulf_apply, mulf_apply, extf_apply]
  erw [bcast_col, bcast_row]

theorem rOf_apply (x0 : Vec Ideal S128x8192 .bf16) (a : Fin 128) :
    rOf x0 (ix2 a 0) = rowFactor fun d => x0 (ix2 a d) := by
  unfold rOf k0_pay3
  dsimp only
  rw [shapeCast_self]
  show Ideal.rsqrt (shapeCast S128x1 _ _ (ix2 a 0) * cMean + cEps) = _
  rw [cast_col]
  refine (congrArg (fun v => Ideal.rsqrt (v * cMean + cEps)) (Ideal.multiReduction_add_single _ _ _ _ _ _)).trans ?_
  refine congrArg (fun v => Ideal.rsqrt (v * cMean + cEps)) (Finset.sum_congr rfl fun d _ => ?_)
  rw [mulf_apply, extf_apply, View.ld_unit_zero (by decide)]
  have : Shape.Reduces.lift reduces_S128x8192_S128 (ix1 a) d = ix2 a d := by
    funext c; match c with | ⟨0, _⟩ => rfl | ⟨1, _⟩ => rfl
  rw [this]
  rfl

theorem qG_apply (h : FVec Ideal S128x128 .f32) (a : Fin 128) :
    qG h (ix2 a 0) = (Finset.univ.fold max ⊥ fun l : Fin 128 => mag (h (ix2 a l))) * c448 := by
  unfold qG
  rw [mulf_apply, cast_col]
  refine (congrArg (fun v => v * c448) (Ideal.multiReduction_maximumf_single _ _ _ _ _ _)).trans ?_
  refine congrArg (fun v => v * c448) ?_
  have e : (FloatOps.ofBits .f32 0xFF800000#32 : Ideal .f32) = ⊥ := by
    show Ideal.ofBits .f32 0xFF800000#32 = ⊥
    simp [Ideal.ofBits, Ideal.ieee]
  rw [e]
  refine Finset.fold_congr fun l _ => ?_
  have : Shape.Reduces.lift reduces_S128x128_S128 (ix1 a) l = ix2 a l := by
    funext c; match c with | ⟨0, _⟩ => rfl | ⟨1, _⟩ => rfl
  show mag (h _) = _
  rw [this]
  rfl

theorem shl23 (x : BitVec 32) : IntOp.shli .vector x 23#32 = x <<< 23 := by
  unfold IntOp.shli
  rw [if_pos (by decide)]
  rfl

theorem thr_apply (a : Fin 128) (l : Fin 255) :
    bitcastToFloat (F := Ideal) .f32 (shli (addi (iota .tc S128x255 32 [1] iota_S128x255_d1_w32) (broadcast S128x255 1#32))
      (broadcast S128x255 23#32)) (ix2 a l) = thr l := by
  show Ideal.ofBits .f32 (IntOp.shli .vector (IntOp.addi (iota .tc S128x255 32 [1] iota_S128x255_d1_w32 (ix2 a l)) 1#32) 23#32) = _
  rw [shl23, iota_single_apply]
  unfold thr
  congr 2
  exact (BitVec.ofNat_add _ _).symm

theorem mark_apply (q : FVec Ideal S128x1 .f32) (a : Fin 128) (l : Fin 255) :
    (select (cmpf .oge (broadcastTo S128x255 q broadcasts_S128x1_S128x255)
      (bitcastToFloat (F := Ideal) .f32 (shli (addi (iota .tc S128x255 32 [1] iota_S128x255_d1_w32) (broadcast S128x255 1#32))
        (broadcast S128x255 23#32)))) (broadcast S128x255 1#32) (broadcast S128x255 0#32)) (ix2 a l)
      = if thr l ≤ q (ix2 a 0) then 1#32 else 0#32 := by
  rw [select_apply, cmpf_apply, thr_apply]
  have : broadcastTo S128x255 q broadcasts_S128x1_S128x255 (ix2 a l) = q (ix2 a 0) := bcast_col q _ a l
  rw [this, Ideal.cmpf_def]
  unfold Ideal.cmp
  by_cases h : thr l ≤ q (ix2 a 0)
  · simp only [h, decide_true, if_true]; rfl
  · simp only [h, decide_false, if_false]; rfl

theorem cntG_apply (q : FVec Ideal S128x1 .f32) (a : Fin 128) :
    cntG q (ix2 a 0) = BitVec.ofNat 32 (count (q (ix2 a 0))) := by
  unfold cntG
  rw [cast_col]
  have hc : count (q (ix2 a 0)) ≤ 255 := (Finset.card_filter_le _ _).trans (by simp)
  have hs : ∑ i ∈ Finset.univ.filter (fun i => Shape.Reduces.drop reduces_S128x255_S128 i = ix1 a),
      ((select (cmpf .oge (broadcastTo S128x255 q broadcasts_S128x1_S128x255)
      (bitcastToFloat (F := Ideal) .f32 (shli (addi (iota .tc S128x255 32 [1] iota_S128x255_d1_w32) (broadcast S128x255 1#32))
        (broadcast S128x255 23#32)))) (broadcast S128x255 1#32) (broadcast S128x255 0#32)) i).toNat = count (q (ix2 a 0)) := by
    rw [Shape.Reduces.sum_filter_drop_single]
    unfold Spec.count
    rw [Finset.card_filter]
    refine Finset.sum_congr rfl fun l _ => ?_
    have : Shape.Reduces.lift reduces_S128x255_S128 (ix1 a) l = ix2 a l := by
      funext c; match c with | ⟨0, _⟩ => rfl | ⟨1, _⟩ => rfl
    rw [this]
    refine (congrArg BitVec.toNat (mark_apply q a l)).trans ?_
    split_ifs <;> rfl
  apply BitVec.eq_of_toNat_eq
  refine (WordSum.toNat_multiReductionI_add _ _ _ _ ?_).trans ?_
  · rw [hs]; omega
  · rw [hs, BitVec.toNat_ofNat, Nat.mod_eq_of_lt (by omega)]

theorem biasG_apply (n : IVec S128x1 32) (i : S128x1.Idx) : biasG n i = bias (n i) := by
  unfold biasG bias
  rw [select_apply]
  show Scalar.select (BitVec.ofBool (n i == 0#32)) 127#32 (n i + 1#32) = _
  by_cases h : n i = 0#32
  · simp only [h, BEq.rfl, if_true]; rfl
  · rw [if_neg h, beq_eq_false_iff_ne.2 h]; rfl

theorem scaleG_apply (b : IVec S128x1 32) (i : S128x1.Idx) : scaleG (F := Ideal) b i = Ideal.ofBits .f32 (b i <<< 23) := by
  show Ideal.ofBits .f32 (IntOp.shli .vector (b i) 23#32) = _
  rw [shl23]

theorem invG_apply (b : IVec S128x1 32) (i : S128x1.Idx) :
    invG (F := Ideal) b i = Ideal.ofBits .f32 ((254#32 - b i) <<< 23) := by
  show Ideal.ofBits .f32 (IntOp.shli .vector (254#32 - b i) 23#32) = _
  rw [shl23]

theorem codeG_apply (h : FVec Ideal S128x128 .f32) (inv : FVec Ideal S128x1 .f32) (a b : Fin 128) :
    codeG h inv (ix2 a b) = clip (h (ix2 a b) * inv (ix2 a 0)) := by
  unfold codeG
  rw [truncf_apply, minimumf_apply, maximumf_apply, mulf_apply]
  have : broadcastTo S128x128 inv broadcasts_S128x1_S128x128 (ix2 a b) = inv (ix2 a 0) := bcast_col inv _ a b
  rw [this]
  rfl

theorem xaG_apply (code : FVec Ideal S128x128 .fp8e4m3) (scale : FVec Ideal S128x1 .f32) (a b : Fin 128) :
    xaG code scale (ix2 a b) = code (ix2 a b) * scale (ix2 a 0) := by
  unfold xaG
  rw [mulf_apply, extf_apply]
  have : broadcastTo S128x128 (truncf .bf16 scale bitsLt_bf16_f32) broadcasts_S128x1_S128x128 (ix2 a b)
    = scale (ix2 a 0) := bcast_col (truncf .bf16 scale bitsLt_bf16_f32) _ a b
  rw [this]

/-! ## The block -/

section Block
variable (x0 : Vec Ideal S128x8192 .bf16) (x1 : Vec Ideal S1x8192 .f32) (hw : ∀ d, mag (x1 (ix2 0 d)) ≤ wMax)
variable (g : Nat) (hx : ∀ a, (![0, 128 * g] : Fin 2 → Nat) a + S128x128.size a ≤ S128x8192.size a)
  (hwi : ∀ a, (![0, 128 * g] : Fin 2 → Nat) a + S1x128.size a ≤ S1x8192.size a)

/-- Row `a` of the block. -/
def rowB (a : Fin 128) : Fin 8192 → EReal := fun d => x0 (ix2 a d)
/-- The weights. -/
def wB : Fin 8192 → EReal := fun d => x1 (ix2 0 d)

include hx in
theorem g_lt : g < 64 := by have := hx 1; simp [S128x128, S128x8192] at this; omega

theorem hG_block (a b : Fin 128) :
    hG (rOf x0) (View.ld x0 (Rect.unit (s := S128x8192) ![0, 128 * g] S128x128.size hx))
      (View.ld x1 (Rect.unit (s := S1x8192) ![0, 128 * g] S1x128.size hwi)) (ix2 a b)
      = hval (rowB x0 a) (wB x1) (col ⟨g, g_lt g hx⟩ b) := by
  rw [hG_apply, rOf_apply]
  unfold hval rowB wB
  congr 1
  · congr 1
    refine congrArg x0 (funext fun c => Fin.ext ?_)
    match c with
    | ⟨0, _⟩ => show 0 + 1 * a.val = a.val; omega
    | ⟨1, _⟩ => show 128 * g + 1 * b.val = 128 * g + b.val; omega
  · refine congrArg x1 (funext fun c => Fin.ext ?_)
    match c with
    | ⟨0, _⟩ => rfl
    | ⟨1, _⟩ => show 128 * g + 1 * b.val = 128 * g + b.val; omega

theorem qG_block (a : Fin 128) :
    qG (hG (rOf x0) (View.ld x0 (Rect.unit (s := S128x8192) ![0, 128 * g] S128x128.size hx))
      (View.ld x1 (Rect.unit (s := S1x8192) ![0, 128 * g] S1x128.size hwi))) (ix2 a 0)
      = quot (rowB x0 a) (wB x1) ⟨g, g_lt g hx⟩ := by
  rw [qG_apply]
  unfold quot amax
  refine congrArg (fun v => v * c448) (Finset.fold_congr fun l _ => ?_)
  rw [hG_block]

include hw in
theorem scaleOf_block (a : Fin 128) :
    scaleOf (rOf x0) (View.ld x0 (Rect.unit (s := S128x8192) ![0, 128 * g] S128x128.size hx))
      (View.ld x1 (Rect.unit (s := S1x8192) ![0, 128 * g] S1x128.size hwi)) (ix2 a 0)
      = xScale (rowB x0 a) (wB x1) ⟨g, g_lt g hx⟩ := by
  unfold scaleOf
  rw [scaleG_apply, biasG_apply, cntG_apply, qG_block]
  exact (scale_bits (quot_lt _ _ hw _)).1

include hw in
theorem codeOf_block (a b : Fin 128) :
    codeOf (rOf x0) (View.ld x0 (Rect.unit (s := S128x8192) ![0, 128 * g] S128x128.size hx))
      (View.ld x1 (Rect.unit (s := S1x8192) ![0, 128 * g] S1x128.size hwi)) (ix2 a b)
      = code (rowB x0 a) (wB x1) (col ⟨g, g_lt g hx⟩ b) := by
  unfold codeOf
  rw [codeG_apply, hG_block, invG_apply, biasG_apply, cntG_apply, qG_block, (scale_bits (quot_lt (rowB x0 a) (wB x1) hw _)).2]
  unfold code xScale
  rw [show grp (col ⟨g, g_lt g hx⟩ b) = ⟨g, g_lt g hx⟩ from Fin.ext (by show (128 * g + b.val) / 128 = g; omega)]

include hw in
theorem xaOf_block (a b : Fin 128) :
    xaOf (rOf x0) (View.ld x0 (Rect.unit (s := S128x8192) ![0, 128 * g] S128x128.size hx))
      (View.ld x1 (Rect.unit (s := S1x8192) ![0, 128 * g] S1x128.size hwi)) (ix2 a b)
      = xa (rowB x0 a) (wB x1) (col ⟨g, g_lt g hx⟩ b) := by
  unfold xaOf
  rw [xaG_apply, codeOf_block x0 x1 hw, scaleOf_block x0 x1 hw]
  unfold xa
  rw [show grp (col ⟨g, g_lt g hx⟩ b) = ⟨g, g_lt g hx⟩ from Fin.ext (by show (128 * g + b.val) / 128 = g; omega)]

end Block

/-- A block's outputs, element by element. -/
theorem codes_block (x0 : Vec Ideal S128x8192 .bf16) (x1 : Vec Ideal S1x8192 .f32) (hw : ∀ d, mag (x1 (ix2 0 d)) ≤ wMax)
    (y : S128x8192.Idx) : out0_2 x0 x1 y = code (rowB x0 (y 0)) (wB x1) (y 1) := by
  refine out0_2_apply x0 x1 (fun y => code (rowB x0 (y 0)) (wB x1) (y 1)) (fun g hx hwi ho x => ?_) y
  obtain ⟨a, b, rfl⟩ : ∃ a b, x = ix2 a b := ⟨x 0, x 1, eq_ix2 x⟩
  rw [codeOf_block x0 x1 hw]
  congr 1
  · congr 1; exact Fin.ext (show a.val = 0 + 1 * a.val by omega)
  · exact Fin.ext (show 128 * g + b.val = 128 * g + 1 * b.val by omega)

theorem scales_block (x0 : Vec Ideal S128x8192 .bf16) (x1 : Vec Ideal S1x8192 .f32) (hw : ∀ d, mag (x1 (ix2 0 d)) ≤ wMax)
    (y : S128x64.Idx) : out0_3 x0 x1 y = xScale (rowB x0 (y 0)) (wB x1) (y 1) := by
  refine out0_3_apply x0 x1 (fun y => xScale (rowB x0 (y 0)) (wB x1) (y 1)) (fun g hx hwi ho x => ?_) y
  obtain ⟨a, b, rfl⟩ : ∃ a b, x = ix2 a b := ⟨x 0, x 1, eq_ix2 x⟩
  obtain rfl : b = 0 := Fin.fin_one_eq_zero b
  rw [scaleOf_block x0 x1 hw]
  congr 1
  congr 1; exact Fin.ext (show a.val = 0 + 1 * a.val by omega)

theorem xa_block (x0 : Vec Ideal S128x8192 .bf16) (x1 : Vec Ideal S1x8192 .f32) (hw : ∀ d, mag (x1 (ix2 0 d)) ≤ wMax)
    (y : S128x8192.Idx) : out0_4 x0 x1 y = xa (rowB x0 (y 0)) (wB x1) (y 1) := by
  refine out0_4_apply x0 x1 (fun y => xa (rowB x0 (y 0)) (wB x1) (y 1)) (fun g hx hwi ho x => ?_) y
  obtain ⟨a, b, rfl⟩ : ∃ a b, x = ix2 a b := ⟨x 0, x 1, eq_ix2 x⟩
  rw [xaOf_block x0 x1 hw]
  congr 1
  · congr 1; exact Fin.ext (show a.val = 0 + 1 * a.val by omega)
  · exact Fin.ext (show 128 * g + b.val = 128 * g + 1 * b.val by omega)

end Cert.KernelIdeal.Quant

end
-- ==== Proof.QuantArray.lean ====
/- The quantiser's three arrays after its grid: codes, scales and scaled-back codes of every row. -/
module

public import proofs.«01_k».proof.Proof.QuantValue

@[expose] public section

set_option maxRecDepth 16384

noncomputable section

namespace Cert.KernelIdeal.Quant

open Cert.KernelIdeal.Gen Cert.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b)) (c : Dev nD)

/-- Row `r` of the activations. -/
def rowA (r : Fin 6144) : Fin 8192 → EReal := fun d => (V c main_v0 : S6144x8192.Idx → EReal) (ix2 r d)
/-- The norm weights. -/
def wA : Fin 8192 → EReal := fun d => (V c main_v2 : S1x8192.Idx → EReal) (ix2 0 d)

/-- The blocks' places in their arrays, in closed form. -/
theorem places : ∀ t : Fin grid0.N,
    (win0_0.index t 0 * win0_0.size 0 = t.val * 128 ∧ win0_0.index t 1 * win0_0.size 1 = 0)
    ∧ (win0_1.index t 0 * win0_1.size 0 = 0 ∧ win0_1.index t 1 * win0_1.size 1 = 0)
    ∧ (win0_2.index t 0 * win0_2.size 0 = t.val * 128 ∧ win0_2.index t 1 * win0_2.size 1 = 0)
    ∧ (win0_3.index t 0 * win0_3.size 0 = t.val * 128 ∧ win0_3.index t 1 * win0_3.size 1 = 0)
    ∧ (win0_4.index t 0 * win0_4.size 0 = t.val * 128 ∧ win0_4.index t 1 * win0_4.size 1 = 0) := by
  decide +kernel

theorem extents : ∀ t : Fin grid0.N,
    (win0_2.xsize (grid0.coords t) 0 = 128 ∧ win0_2.xsize (grid0.coords t) 1 = 8192)
    ∧ (win0_3.xsize (grid0.coords t) 0 = 128 ∧ win0_3.xsize (grid0.coords t) 1 = 64)
    ∧ (win0_4.xsize (grid0.coords t) 0 = 128 ∧ win0_4.xsize (grid0.coords t) 1 = 8192) := by
  decide +kernel

theorem t_lt (t : Fin cfg0.N) : t.val < 48 := t.isLt

/-- The row of the array row `a` of block `t` is. -/
def rowOf (t : Fin cfg0.N) (a : Fin 128) : Fin 6144 := ⟨t.val * 128 + a.val, by have := t_lt t; omega⟩

theorem row_block (t : Fin cfg0.N) (a : Fin 128) : rowB (iblk0 V c 0 t) a = rowA V c (rowOf t a) := by
  funext d
  obtain ⟨⟨e0, e1⟩, -⟩ := places t
  refine congrArg (V c main_v0 : S6144x8192.Idx → EReal) (funext fun x => Fin.ext ?_)
  match x with
  | ⟨0, _⟩ => show win0_0.index t 0 * win0_0.size 0 + 1 * a.val = t.val * 128 + a.val; rw [e0]; omega
  | ⟨1, _⟩ => show win0_0.index t 1 * win0_0.size 1 + 1 * d.val = d.val; rw [e1]; omega

theorem w_block (t : Fin cfg0.N) : wB (iblk0 V c 1 t) = wA V c := by
  funext d
  obtain ⟨-, ⟨e0, e1⟩, -⟩ := places t
  refine congrArg (V c main_v2 : S1x8192.Idx → EReal) (funext fun x => Fin.ext ?_)
  match x with
  | ⟨0, _⟩ => show win0_1.index t 0 * win0_1.size 0 + 1 * 0 = 0; rw [e0]
  | ⟨1, _⟩ => show win0_1.index t 1 * win0_1.size 1 + 1 * d.val = d.val; rw [e1]; omega

/-- The three arrays. -/
def codesA : S6144x8192.Idx → EReal := fun i => code (rowA V c (i 0)) (wA V c) (i 1)
@[inherit_doc codesA]
def scalesA : S6144x64.Idx → EReal := fun i => xScale (rowA V c (i 0)) (wA V c) (i 1)
@[inherit_doc codesA]
def xaA : S6144x8192.Idx → EReal := fun i => xa (rowA V c (i 0)) (wA V c) (i 1)

variable (hw : ∀ d, mag (wA V c d) ≤ wMax)

include hw in
theorem hwB (t : Fin cfg0.N) : ∀ d, mag (wB (iblk0 V c 1 t) d) ≤ wMax := by rw [w_block]; exact hw

include hw in
theorem flushed2 (t : Fin cfg0.N) :
    (dat0 V c).flushed 2 t = ((cfg0.win 2).blk t).view.read (Elt Ideal) (codesA V c) := by
  show (cfg0.win 2).cut (grid0.coords t) ((dat0 V c).after 2 t) = _
  rw [after0_2]
  funext y
  obtain ⟨-, -, ⟨e0, e1⟩, -⟩ := places t
  refine (codes_block _ _ (hwB V c hw t) _).trans ?_
  refine (congrArg₂ (fun r w => code r w _) (row_block V c t _) (w_block V c t)).trans ?_
  refine congrArg₂ (fun r d => code (rowA V c r) (wA V c) d) (Fin.ext ?_) (Fin.ext ?_)
  · show t.val * 128 + (y 0).val = win0_2.index t 0 * win0_2.size 0 + 1 * (y 0).val; rw [e0]; omega
  · show (y 1).val = win0_2.index t 1 * win0_2.size 1 + 1 * (y 1).val; rw [e1]; omega

include hw in
theorem flushed3 (t : Fin cfg0.N) :
    (dat0 V c).flushed 3 t = ((cfg0.win 3).blk t).view.read (Elt Ideal) (scalesA V c) := by
  show (cfg0.win 3).cut (grid0.coords t) ((dat0 V c).after 3 t) = _
  rw [after0_3]
  funext y
  obtain ⟨-, -, -, ⟨e0, e1⟩, -⟩ := places t
  refine (scales_block _ _ (hwB V c hw t) _).trans ?_
  refine (congrArg₂ (fun r w => xScale r w _) (row_block V c t _) (w_block V c t)).trans ?_
  refine congrArg₂ (fun r d => xScale (rowA V c r) (wA V c) d) (Fin.ext ?_) (Fin.ext ?_)
  · show t.val * 128 + (y 0).val = win0_3.index t 0 * win0_3.size 0 + 1 * (y 0).val; rw [e0]; omega
  · show (y 1).val = win0_3.index t 1 * win0_3.size 1 + 1 * (y 1).val; rw [e1]; omega

include hw in
theorem flushed4 (t : Fin cfg0.N) :
    (dat0 V c).flushed 4 t = ((cfg0.win 4).blk t).view.read (Elt Ideal) (xaA V c) := by
  show (cfg0.win 4).cut (grid0.coords t) ((dat0 V c).after 4 t) = _
  rw [after0_4]
  funext y
  obtain ⟨-, -, -, -, ⟨e0, e1⟩⟩ := places t
  refine (xa_block _ _ (hwB V c hw t) _).trans ?_
  refine (congrArg₂ (fun r w => xa r w _) (row_block V c t _) (w_block V c t)).trans ?_
  refine congrArg₂ (fun r d => xa (rowA V c r) (wA V c) d) (Fin.ext ?_) (Fin.ext ?_)
  · show t.val * 128 + (y 0).val = win0_4.index t 0 * win0_4.size 0 + 1 * (y 0).val; rw [e0]; omega
  · show (y 1).val = win0_4.index t 1 * win0_4.size 1 + 1 * (y 1).val; rw [e1]; omega

theorem cover2 (i : S6144x8192.Idx) : ∃ t : Fin cfg0.N, (cfg0.win 2).flush t = true ∧ i ∈ ((cfg0.win 2).blk t).view.set := by
  have h0 : (i 0).val < 6144 := (i 0).isLt
  have h1 : (i 1).val < 8192 := (i 1).isLt
  let t : Fin cfg0.N := ⟨(i 0).val / 128, show (i 0).val / 128 < 48 by omega⟩
  refine ⟨t, flush0_2 _, ?_⟩
  show i ∈ ((View.whole main_v3_0).slice (win0_2.rect t)).set
  rw [View.set_slice_whole, Rect.mem_set_unit]
  obtain ⟨-, -, ⟨e0, e1⟩, -⟩ := places t
  obtain ⟨⟨f0, f1⟩, -⟩ := extents t
  have ht : t.val = (i 0).val / 128 := rfl
  intro a
  match a with
  | ⟨0, _⟩ =>
    show win0_2.index t 0 * win0_2.size 0 ≤ (i 0).val ∧ (i 0).val < win0_2.index t 0 * win0_2.size 0 + win0_2.xsize (grid0.coords t) 0
    rw [e0, f0]; omega
  | ⟨1, _⟩ =>
    show win0_2.index t 1 * win0_2.size 1 ≤ (i 1).val ∧ (i 1).val < win0_2.index t 1 * win0_2.size 1 + win0_2.xsize (grid0.coords t) 1
    rw [e1, f1]; omega

theorem cover3 (i : S6144x64.Idx) : ∃ t : Fin cfg0.N, (cfg0.win 3).flush t = true ∧ i ∈ ((cfg0.win 3).blk t).view.set := by
  have h0 : (i 0).val < 6144 := (i 0).isLt
  have h1 : (i 1).val < 64 := (i 1).isLt
  let t : Fin cfg0.N := ⟨(i 0).val / 128, show (i 0).val / 128 < 48 by omega⟩
  refine ⟨t, flush0_3 _, ?_⟩
  show i ∈ ((View.whole main_v3_1).slice (win0_3.rect t)).set
  rw [View.set_slice_whole, Rect.mem_set_unit]
  obtain ⟨-, -, -, ⟨e0, e1⟩, -⟩ := places t
  obtain ⟨-, ⟨f0, f1⟩, -⟩ := extents t
  have ht : t.val = (i 0).val / 128 := rfl
  intro a
  match a with
  | ⟨0, _⟩ =>
    show win0_3.index t 0 * win0_3.size 0 ≤ (i 0).val ∧ (i 0).val < win0_3.index t 0 * win0_3.size 0 + win0_3.xsize (grid0.coords t) 0
    rw [e0, f0]; omega
  | ⟨1, _⟩ =>
    show win0_3.index t 1 * win0_3.size 1 ≤ (i 1).val ∧ (i 1).val < win0_3.index t 1 * win0_3.size 1 + win0_3.xsize (grid0.coords t) 1
    rw [e1, f1]; omega

theorem cover4 (i : S6144x8192.Idx) : ∃ t : Fin cfg0.N, (cfg0.win 4).flush t = true ∧ i ∈ ((cfg0.win 4).blk t).view.set := by
  have h0 : (i 0).val < 6144 := (i 0).isLt
  have h1 : (i 1).val < 8192 := (i 1).isLt
  let t : Fin cfg0.N := ⟨(i 0).val / 128, show (i 0).val / 128 < 48 by omega⟩
  refine ⟨t, flush0_4 _, ?_⟩
  show i ∈ ((View.whole main_v3_2).slice (win0_4.rect t)).set
  rw [View.set_slice_whole, Rect.mem_set_unit]
  obtain ⟨-, -, -, -, ⟨e0, e1⟩⟩ := places t
  obtain ⟨-, -, ⟨f0, f1⟩⟩ := extents t
  have ht : t.val = (i 0).val / 128 := rfl
  intro a
  match a with
  | ⟨0, _⟩ =>
    show win0_4.index t 0 * win0_4.size 0 ≤ (i 0).val ∧ (i 0).val < win0_4.index t 0 * win0_4.size 0 + win0_4.xsize (grid0.coords t) 0
    rw [e0, f0]; omega
  | ⟨1, _⟩ =>
    show win0_4.index t 1 * win0_4.size 1 ≤ (i 1).val ∧ (i 1).val < win0_4.index t 1 * win0_4.size 1 + win0_4.xsize (grid0.coords t) 1
    rw [e1, f1]; omega

include hw in
/-- The codes' array after the grid. -/
theorem arr2 : (dat0 V c).arrAt 2 cfg0.N = codesA V c :=
  (dat0 V c).arrAt_eq_of_cover 2 (codesA V c) (fun t _ => flushed2 V c hw t) cover2

include hw in
/-- The scales' array after the grid. -/
theorem arr3 : (dat0 V c).arrAt 3 cfg0.N = scalesA V c :=
  (dat0 V c).arrAt_eq_of_cover 3 (scalesA V c) (fun t _ => flushed3 V c hw t) cover3

include hw in
/-- The scaled-back codes' array after the grid. -/
theorem arr4 : (dat0 V c).arrAt 4 cfg0.N = xaA V c :=
  (dat0 V c).arrAt_eq_of_cover 4 (xaA V c) (fun t _ => flushed4 V c hw t) cover4

end Cert.KernelIdeal.Quant

end
-- ==== Proof.ProjHead.lean ====
/- What the projection does to its block of products: each of the four heads is normalised and turned, or passed through. -/
module

public import proofs.«01_k».proof.Proof.HeadSpec
public import proofs.«01_k».proof.Proof.Gen.KernelIdeal.Skeleton
public import Idealize.ShloMosaic.Lib.ValueIdx
public import Idealize.ShloMosaic.Lib.MatmulPlain
public import Idealize.ShloMosaic.Lib.KernelVsHost
public import Idealize.ShloMosaic.Lib.Pipeline.Value

@[expose] public section

set_option maxRecDepth 65536

noncomputable section

namespace Cert.KernelIdeal.Proj

open Cert.KernelIdeal.Gen Cert.Spec
open Idealize.ShloMosaic Idealize.ShloMosaic.TcCoe Idealize.ShloMosaic.ValueIdx Idealize.SL.Sem
open scoped BigOperators

section
variable {F : FTy → Type} [FloatOps F]

/-- A head normalised. -/
def nrm (v : FVec F S512x128 .f32) (v8 : FVec F S1x128 .f32) : FVec F S512x128 .f32 :=
  mulf (mulf v (broadcastTo S512x128 (rsqrt (addf (divf (shapeCast S512x1
      (multiReduction .add [1] S512 (mulf v v) 0x00000000#32 reduces_S512x128_S512 (.inl rfl) rfl) shapeCasts_S512_S512x1)
      (broadcast S512x1 (Scalar.ofBits .f32 0x43000000#32))) (broadcast S512x1 (Scalar.ofBits .f32 0x358637BD#32))))
      broadcasts_S512x1_S512x128))
    (broadcastTo S512x128 v8 broadcasts_S1x128_S512x128)

/-- A head's output: turned, or passed through. -/
def headOut (v6 : BitVec 1) (v : FVec F S512x128 .f32) (v8 : FVec F S1x128 .f32) (cs sn : Vec F S512x128 .f32) :
    FVec F S512x128 .bf16 :=
  truncf .bf16 (Scalar.select v6 v (addf (mulf (nrm v v8) (shapeCast S512x128 cs shapeCasts_S512x128_S512x128))
    (mulf (dynamicRotate 1 64#32 none (nrm v v8) rotates_S512x128_d1) (shapeCast S512x128 sn shapeCasts_S512x128_S512x128))))
    bitsLt_bf16_f32

theorem head0 (i : grid1.Coords) (v1 : Vec F S512x8192 .bf16) (v3 : Vec F S8192x512 .bf16) (v7 : Vec F S1x1x128 .f32)
    (cs sn : Vec F S512x128 .f32) :
    k1_pay11 i v1 v3 v7 cs sn = headOut (Scalar.cmpi .sge (Scalar.muli (BitVec.ofNat 32 (i 1).val) 4#32) 128#32)
      (extractStridedSlice S512x128 ![0, 0] (k1_pay9 v1 v3) slices_S512x512_o0_0_S512x128) (k1_pay10 v7) cs sn := rfl

theorem head1 (v4 : FVec F S512x512 .f32) (v6 : BitVec 1) (v8 : FVec F S1x128 .f32) (cs sn : Vec F S512x128 .f32) :
    k1_pay12 v4 v6 v8 cs sn
      = headOut v6 (extractStridedSlice S512x128 ![0, 128] v4 slices_S512x512_o0_128_S512x128) v8 cs sn := rfl

theorem head2 (v4 : FVec F S512x512 .f32) (v6 : BitVec 1) (v8 : FVec F S1x128 .f32) (cs sn : Vec F S512x128 .f32) :
    k1_pay1 v6 (k1_pay13 v4) (k1_pay15 v4 v8 cs) (k1_pay16 v4 v8) sn
      = headOut v6 (extractStridedSlice S512x128 ![0, 256] v4 slices_S512x512_o0_256_S512x128) v8 cs sn := rfl

theorem head3 (v4 : FVec F S512x512 .f32) (v6 : BitVec 1) (v8 : FVec F S1x128 .f32) (cs sn : Vec F S512x128 .f32) :
    k1_pay2 v4 v6 v8 cs sn
      = headOut v6 (extractStridedSlice S512x128 ![0, 384] v4 slices_S512x512_o0_384_S512x128) v8 cs sn := rfl
end

theorem bcast_col {α : Type} (r : S512x1.Idx → α) (h : S512x1.Broadcasts S512x128) (a : Fin 512) (b : Fin 128) :
    broadcastTo S512x128 r h (ix2 a b) = r (ix2 a 0) :=
  broadcastTo_apply r h _ _ fun c => by match c with | ⟨0, _⟩ => rfl | ⟨1, _⟩ => rfl

theorem bcast_row {α : Type} (r : S1x128.Idx → α) (h : S1x128.Broadcasts S512x128) (a : Fin 512) (b : Fin 128) :
    broadcastTo S512x128 r h (ix2 a b) = r (ix2 0 b) :=
  broadcastTo_apply r h _ _ fun c => by match c with | ⟨0, _⟩ => rfl | ⟨1, _⟩ => rfl

theorem cast_col {α : Type} (r : S512.Idx → α) (h : S512.ShapeCasts S512x1) (a : Fin 512) :
    shapeCast S512x1 r h (ix2 a 0) = r (ix1 a) :=
  shapeCast_apply r h _ _ (by rw [Shape.rowMajor_val_one, Shape.rowMajor_val_two]; simp [S512x1])

/-- A normalised head at an element. -/
theorem nrm_apply (v : FVec Ideal S512x128 .f32) (v8 : FVec Ideal S1x128 .f32) (a : Fin 512) (e : Fin 128) :
    nrm v v8 (ix2 a e) = headNorm (fun l => v (ix2 a l)) (fun l => v8 (ix2 0 l)) e := by
  unfold nrm
  rw [mulf_apply, mulf_apply, bcast_col, bcast_row]
  show v (ix2 a e) * Ideal.rsqrt (Ideal.div (shapeCast S512x1 _ _ (ix2 a 0)) c128 + cEps) * v8 (ix2 0 e) = _
  rw [cast_col]
  refine (congrArg (fun u => v (ix2 a e) * Ideal.rsqrt (Ideal.div u c128 + cEps) * v8 (ix2 0 e))
    (Ideal.multiReduction_add_single _ _ _ _ _ _)).trans ?_
  refine congrArg (fun u => v (ix2 a e) * Ideal.rsqrt (Ideal.div u c128 + cEps) * v8 (ix2 0 e))
    (Finset.sum_congr rfl fun l _ => ?_)
  have : Shape.Reduces.lift reduces_S512x128_S512 (ix1 a) l = ix2 a l := by
    funext c; match c with | ⟨0, _⟩ => rfl | ⟨1, _⟩ => rfl
  rw [this]
  rfl

theorem rotate_apply (x : S512x128.Idx → EReal) (a : Fin 512) (e : Fin 128) :
    dynamicRotate 1 64#32 none x rotates_S512x128_d1 (ix2 a e) = x (ix2 a (swap e)) :=
  dynamicRotate_apply (1 : Fin 2) 64#32 x rotates_S512x128_d1 (ix2 a e) (ix2 a (swap e)) fun b => by
    match b with
    | ⟨0, _⟩ => rfl
    | ⟨1, _⟩ => show (e.val + 64) % 128 = (e.val + 128 - 64 % 128) % 128; omega

/-- A head's output at an element. -/
theorem headOut_apply (v6 : BitVec 1) (v : FVec Ideal S512x128 .f32) (v8 : FVec Ideal S1x128 .f32)
    (cs sn : Vec Ideal S512x128 .f32) (a : Fin 512) (e : Fin 128) :
    headOut (F := Ideal) v6 v v8 cs sn (ix2 a e)
      = (Scalar.select v6 (v (ix2 a e))
        (turned (fun l => v (ix2 a l)) (fun l => v8 (ix2 0 l)) (fun l => cs (ix2 a l)) (fun l => sn (ix2 a l)) e) : EReal) := by
  unfold headOut
  rw [shapeCast_self, shapeCast_self, truncf_apply]
  have hs : ∀ (x y : FVec Ideal S512x128 .f32) (k : S512x128.Idx),
      (Scalar.select v6 x y : FVec Ideal S512x128 .f32) k = (Scalar.select v6 (x k) (y k) : EReal) := by
    intro x y k; unfold Scalar.select; split <;> rfl
  rw [hs, addf_apply, mulf_apply, mulf_apply, nrm_apply]
  refine congrArg (fun u => (Scalar.select v6 (v (ix2 a e)) u : EReal)) ?_
  refine congrArg (fun u => headNorm (fun l => v (ix2 a l)) (fun l => v8 (ix2 0 l)) e * cs (ix2 a e) + u * sn (ix2 a e)) ?_
  exact (rotate_apply _ a e).trans (nrm_apply v v8 a (swap e))

/-- The product at an element. -/
theorem product_apply (v1 : Vec Ideal S512x8192 .bf16) (v3 : Vec Ideal S8192x512 .bf16) (a : Fin 512) (o : Fin 512) :
    k1_pay9 (F := Ideal) v1 v3 (ix2 a o) = (∑ d : Fin 8192, v1 (ix2 a d) * v3 (ix2 d o) : EReal) := by
  unfold k1_pay9
  rw [shapeCast_self]
  refine (Ideal.matmul_plain_apply (M := 512) (K := 8192) (N := 512) none v1 v3 _ a o).trans ?_
  show Ideal.ofBits .f32 0x00000000#32 + _ = _
  rw [Ideal.ofBits_zero_f32, zero_add]

/-- A slice of four heads' columns at an element. -/
theorem slice_apply (v4 : FVec Ideal S512x512 .f32) (o : ℕ) (h : S512x512.Slices ![0, o] S512x128) (ho : o + 128 ≤ 512)
    (a : Fin 512) (e : Fin 128) :
    extractStridedSlice S512x128 ![0, o] v4 h (ix2 a e) = v4 (ix2 a ⟨o + e.val, by omega⟩) := by
  refine extractStridedSlice_apply _ _ _ _ _ fun b => ?_
  match b with
  | ⟨0, _⟩ => show a.val = 0 + a.val; omega
  | ⟨1, _⟩ => rfl

theorem weight_apply (v7 : Vec Ideal S1x1x128 .f32) (e : Fin 128) :
    k1_pay10 (F := Ideal) v7 (ix2 0 e) = v7 (ix3 0 0 e) := by
  unfold k1_pay10
  refine shapeCast_apply _ _ _ _ ?_
  rw [Shape.rowMajor_val_two, Shape.rowMajor_val_three]; rfl

/-- The blocks of columns from 32 on are passed through. -/
theorem passed : ∀ j : Fin 48, Scalar.cmpi .sge (Scalar.muli (BitVec.ofNat 32 j.val) 4#32) 128#32
    = if 32 ≤ j.val then 1#1 else 0#1 := by decide +kernel

end Cert.KernelIdeal.Proj

end
-- ==== Proof.ProjWeights.lean ====
/- The scaled weights the projection keeps beside its block: what the 64 trips of its loop leave there, element by
   element — the weight times its tile's scale. -/
module

public import proofs.«01_k».proof.Proof.Spec
public import proofs.«01_k».proof.Proof.Gen.KernelIdeal.Frame
public import Idealize.ShloMosaic.Lib.ValueIdx
public import Idealize.ShloMosaic.Lib.Pipeline.Value

@[expose] public section

set_option maxRecDepth 65536

noncomputable section

namespace Cert.KernelIdeal.Proj

open Cert.KernelIdeal.Gen Cert.Spec
open Idealize.ShloMosaic Idealize.ShloMosaic.TcCoe Idealize.ShloMosaic.ValueIdx Idealize.SL.Sem

/-- The trip's row of tiles. -/
theorem trip_row : ∀ k : Fin k1_t1_loop.trips, BitVec.toNat (Scalar.indexCast (Scf.iv 0#32 1#32 k.val)) = k.val := by
  decide +kernel

/-- The trip's first row. -/
theorem trip_off : ∀ k : Fin k1_t1_loop.trips,
    BitVec.toNat (Scalar.indexCast (Scalar.muli (Scf.iv 0#32 1#32 k.val) 128#32)) = 128 * k.val := by
  decide +kernel

/-- The tile column of the block's `n`th tile. -/
theorem tile_col : ∀ (j : Fin 48) (n : Fin 4),
    BitVec.toNat (Scalar.indexCast (Scalar.addi (Scalar.muli (BitVec.ofNat 32 j.val) 4#32) (BitVec.ofNat 32 n.val)))
      = 4 * j.val + n.val := by
  decide +kernel

theorem trips_eq : k1_t1_loop.trips = 64 := by decide +kernel

theorem trips_eq' : Scf.trips (0#32) (Scalar.addi 0#32 64#32) 1#32 = 64 := by decide +kernel

/-- The block's column number. -/
def jOf (i : grid1.Coords) : Fin 48 := i 1

/-- The scaled weights of block column `j`: a weight times its tile's scale. -/
def wb (x0 : S64x192.Idx → EReal) (x2 : S8192x512.Idx → EReal) (j : Fin 48) (y : S8192x512.Idx) : EReal :=
  x2 y * x0 (ix2 (grp (y 0)) ⟨4 * j.val + (y 1).val / 128, by have : (y 1).val < 512 := (y 1).isLt; omega⟩)

/-- One store's value: the weights of its tile times the tile's scale. -/
theorem piece (x0 : S64x192.Idx → EReal) (x2 : S8192x512.Idx → EReal) (j : Fin 48) (k n : ℕ) (off off' : Fin 2 → ℕ)
    (hk : k < 64) (h0 : off 0 = 128 * k) (h1 : off 1 = 128 * n) (h0' : off' 0 = k) (h1' : off' 1 = 4 * j.val + n) (hn : n < 4)
    (inb : ∀ a, off a + (![128, 128] : Fin 2 → ℕ) a ≤ S8192x512.size a)
    (inb' : ∀ a, off' a + (![1, 1] : Fin 2 → ℕ) a ≤ S64x192.size a)
    (x : (Rect.unit (s := S8192x512) off ![128, 128] inb).shape.Idx)
    (f : (Rect.unit (s := S64x192) off' ![1, 1] inb').shape.Idx) :
    x2 ((Rect.unit (s := S8192x512) off ![128, 128] inb).emb x)
        * x0 ((Rect.unit (s := S64x192) off' ![1, 1] inb').emb f)
      = wb x0 x2 j ((Rect.unit (s := S8192x512) off ![128, 128] inb).emb x) := by
  have hx0 : (x 0).val < 128 := (x 0).isLt
  have hx1 : (x 1).val < 128 := (x 1).isLt
  have hf0 : (f 0).val < 1 := (f 0).isLt
  have hf1 : (f 1).val < 1 := (f 1).isLt
  refine congrArg (fun v => x2 ((Rect.unit (s := S8192x512) off ![128, 128] inb).emb x) * x0 v)
    (funext fun a => Fin.ext ?_)
  match a with
  | ⟨0, _⟩ => show off' 0 + 1 * (f 0).val = (off 0 + 1 * (x 0).val) / 128; omega
  | ⟨1, _⟩ => show off' 1 + 1 * (f 1).val = 4 * j.val + (off 1 + 1 * (x 1).val) / 128; omega

/-- A row of the trip and a column of the tile lie in the tile's rectangle. -/
theorem in_tile (off : Fin 2 → ℕ) (k n : ℕ) (h0 : off 0 = 128 * k) (h1 : off 1 = 128 * n)
    (inb : ∀ a, off a + (![128, 128] : Fin 2 → ℕ) a ≤ S8192x512.size a)
    (y : S8192x512.Idx) (hy0 : (y 0).val / 128 = k) (hy1 : (y 1).val / 128 = n) :
    y ∈ (Rect.unit (s := S8192x512) off ![128, 128] inb).set := by
  rw [Rect.mem_set_unit]
  intro a
  match a with
  | ⟨0, _⟩ => show off 0 ≤ (y 0).val ∧ (y 0).val < off 0 + 128; omega
  | ⟨1, _⟩ => show off 1 ≤ (y 1).val ∧ (y 1).val < off 1 + 128; omega

theorem pay3 (a : Elt Ideal .f32) (b : Vec Ideal S128x128 .fp8e4m3) (x : S128x128.Idx) :
    k1_pay3 (F := Ideal) a b x = (b x * a : EReal) := by
  unfold k1_pay3; rw [shapeCast_self]; rfl
theorem pay4 (a : Elt Ideal .f32) (b : Vec Ideal S128x128 .fp8e4m3) (x : S128x128.Idx) :
    k1_pay4 (F := Ideal) a b x = (b x * a : EReal) := by
  unfold k1_pay4; rw [shapeCast_self]; rfl
theorem pay7 (a : Elt Ideal .f32) (b : Vec Ideal S128x128 .fp8e4m3) (x : S128x128.Idx) :
    k1_pay7 (F := Ideal) (k1_pay5 b) (k1_pay6 a) x = (b x * a : EReal) := by
  unfold k1_pay7; rw [shapeCast_self]; rfl
theorem pay8 (a : Elt Ideal .f32) (b : Vec Ideal S128x128 .fp8e4m3) (x : S128x128.Idx) :
    k1_pay8 (F := Ideal) a b x = (b x * a : EReal) := by
  unfold k1_pay8; rw [shapeCast_self]; rfl

section
variable (c : Dev nD) (i : grid1.Coords) (arg2 : Memref sig .tc .smem S64x192 .f32) (harg2 : arg2.IsWhole) (arg3 : Memref sig .tc .vmem S512x8192 .bf16) (harg3 : arg3.IsWhole) (arg4 : Memref sig .tc .vmem S8192x512 .fp8e4m3) (harg4 : arg4.IsWhole) (arg5 : Memref sig .tc .vmem S512x128 .f32) (harg5 : arg5.IsWhole) (arg6 : Memref sig .tc .vmem S512x128 .f32) (harg6 : arg6.IsWhole) (arg7 : Memref sig .tc .vmem S1x1x128 .f32) (harg7 : arg7.IsWhole) (arg8 : Memref sig .tc .vmem S512x512 .bf16) (harg8 : arg8.IsWhole) (arg9 : Memref sig .tc .vmem S8192x512 .bf16) (harg9 : arg9.IsWhole) (arg1 : BitVec 32)
  (x0 : Vec Ideal S64x192 .f32) (x2 : Vec Ideal S8192x512 .fp8e4m3)

/-- The stores of one trip. -/
abbrev tripL (k : Fin k1_t1_loop.trips) : List (View.Piece (Elt Ideal) S8192x512 .bf16) :=
  tripL_k1_t1 (F := Ideal) Variants.none c none i arg2 harg2 arg3 harg3 arg4 harg4 arg5 harg5 arg6 harg6 arg7 harg7 arg8 harg8 arg9 harg9 arg1 (harg2.unread x0) (harg4.unread x2) k

/-- The stores of the trips before `n`. -/
abbrev allL (n : ℕ) : List (View.Piece (Elt Ideal) S8192x512 .bf16) :=
  pb_k1_t1 (F := Ideal) Variants.none c none i arg2 harg2 arg3 harg3 arg4 harg4 arg5 harg5 arg6 harg6 arg7 harg7 arg8 harg8 arg9 harg9 arg1 (harg2.unread x0) (harg4.unread x2) n

/-- Each store of a trip writes scaled weights. -/
theorem trip_values (k : Fin k1_t1_loop.trips) :
    ∀ p ∈ tripL c i arg2 harg2 arg3 harg3 arg4 harg4 arg5 harg5 arg6 harg6 arg7 harg7 arg8 harg8 arg9 harg9 arg1 x0 x2 k,
      ∀ x : p.1.shape.Idx, p.2 x = wb x0 x2 (jOf i) (p.1.emb x) := by
  have hk : k.val < 64 := lt_of_lt_of_eq k.isLt trips_eq
  unfold tripL tripL_k1_t1 trip_k1_t1
  dsimp only
  sl_unfold_words
  simp only [View.readAt_eq_ld, Memref.IsWhole.read_unread]
  intro p hp
  rcases List.mem_cons.1 hp with rfl | hp
  · intro x
    refine (pay8 _ _ x).trans ?_
    exact piece x0 x2 (jOf i) k.val 3 _ _ hk (trip_off k) rfl (trip_row k) (tile_col (jOf i) 3) (by decide) (k1_off5_inb k) (k1_off1_inb i k 3) x _
  rcases List.mem_cons.1 hp with rfl | hp
  · intro x
    refine (pay7 _ _ x).trans ?_
    exact piece x0 x2 (jOf i) k.val 2 _ _ hk (trip_off k) rfl (trip_row k) (tile_col (jOf i) 2) (by decide) (k1_off4_inb k) (k1_off1_inb i k 2) x _
  rcases List.mem_cons.1 hp with rfl | hp
  · intro x
    refine (pay4 _ _ x).trans ?_
    exact piece x0 x2 (jOf i) k.val 1 _ _ hk (trip_off k) rfl (trip_row k) (tile_col (jOf i) 1) (by decide) (k1_off3_inb k) (k1_off1_inb i k 1) x _
  rcases List.mem_cons.1 hp with rfl | hp
  · intro x
    refine (pay3 _ _ x).trans ?_
    exact piece x0 x2 (jOf i) k.val 0 _ _ hk (trip_off k) rfl (trip_row k) (tile_col (jOf i) 0) (by decide) (k1_off2_inb k) (k1_off1_inb i k 0) x _
  exact absurd hp List.not_mem_nil

/-- The stores of a trip cover its 128 rows. -/
theorem trip_cover (k : Fin k1_t1_loop.trips) (y : S8192x512.Idx) (hy : (y 0).val / 128 = k.val) :
    ∃ p ∈ tripL c i arg2 harg2 arg3 harg3 arg4 harg4 arg5 harg5 arg6 harg6 arg7 harg7 arg8 harg8 arg9 harg9 arg1 x0 x2 k,
      y ∈ p.1.set := by
  have h1 : (y 1).val < 512 := (y 1).isLt
  unfold tripL tripL_k1_t1 trip_k1_t1
  dsimp only
  by_cases a3 : 384 ≤ (y 1).val
  · exact ⟨_, List.mem_cons_self, in_tile (k1_off5 k) k.val 3 (trip_off k) rfl (k1_off5_inb k) y hy (by omega)⟩
  by_cases a2 : 256 ≤ (y 1).val
  · exact ⟨_, List.mem_cons_of_mem _ List.mem_cons_self, in_tile (k1_off4 k) k.val 2 (trip_off k) rfl (k1_off4_inb k) y hy (by omega)⟩
  by_cases a1 : 128 ≤ (y 1).val
  · exact ⟨_, List.mem_cons_of_mem _ (List.mem_cons_of_mem _ List.mem_cons_self),
      in_tile (k1_off3 k) k.val 1 (trip_off k) rfl (k1_off3_inb k) y hy (by omega)⟩
  exact ⟨_, List.mem_cons_of_mem _ (List.mem_cons_of_mem _ (List.mem_cons_of_mem _ List.mem_cons_self)),
    in_tile (k1_off2 k) k.val 0 (trip_off k) rfl (k1_off2_inb k) y hy (by omega)⟩

/-- Every store before trip `n` writes scaled weights. -/
theorem all_values : ∀ n, n ≤ 64 →
    ∀ p ∈ allL c i arg2 harg2 arg3 harg3 arg4 harg4 arg5 harg5 arg6 harg6 arg7 harg7 arg8 harg8 arg9 harg9 arg1 x0 x2 n,
      ∀ x : p.1.shape.Idx, p.2 x = wb x0 x2 (jOf i) (p.1.emb x)
  | 0, _ => fun p hp => absurd hp List.not_mem_nil
  | n + 1, h => by
    intro p hp
    have hn : n < k1_t1_loop.trips := trips_eq ▸ (by omega)
    unfold allL at hp
    rw [show n + 1 = (⟨n, hn⟩ : Fin k1_t1_loop.trips).val + 1 from rfl, pb_k1_t1_succ] at hp
    rcases List.mem_append.1 hp with hp | hp
    · exact trip_values c i arg2 harg2 arg3 harg3 arg4 harg4 arg5 harg5 arg6 harg6 arg7 harg7 arg8 harg8 arg9 harg9 arg1 x0 x2 ⟨n, hn⟩ p hp
    · exact all_values n (by omega) p hp

/-- The stores before trip `n` cover the first `128 n` rows. -/
theorem all_cover (y : S8192x512.Idx) : ∀ n, n ≤ 64 → (y 0).val < 128 * n →
    ∃ p ∈ allL c i arg2 harg2 arg3 harg3 arg4 harg4 arg5 harg5 arg6 harg6 arg7 harg7 arg8 harg8 arg9 harg9 arg1 x0 x2 n,
      y ∈ p.1.set
  | 0, _, h => absurd h (by omega)
  | n + 1, h, hy => by
    have hn : n < k1_t1_loop.trips := trips_eq ▸ (by omega)
    unfold allL
    rw [show n + 1 = (⟨n, hn⟩ : Fin k1_t1_loop.trips).val + 1 from rfl, pb_k1_t1_succ]
    by_cases hlt : (y 0).val < 128 * n
    · obtain ⟨p, hp, hm⟩ := all_cover y n (by omega) hlt
      exact ⟨p, List.mem_append_right _ hp, hm⟩
    · obtain ⟨p, hp, hm⟩ := trip_cover c i arg2 harg2 arg3 harg3 arg4 harg4 arg5 harg5 arg6 harg6 arg7 harg7 arg8 harg8 arg9 harg9 arg1 x0 x2 ⟨n, hn⟩ y
        (show (y 0).val / 128 = n by omega)
      exact ⟨p, List.mem_append_left _ hp, hm⟩

/-- What the product reads: the scaled weights. -/
theorem kept (y : S8192x512.Idx) (inb : ∀ a, (![0, 0] : Fin 2 → ℕ) a + (![8192, 512] : Fin 2 → ℕ) a ≤ S8192x512.size a) :
    arg9.view.readCov (allL c i arg2 harg2 arg3 harg3 arg4 harg4 arg5 harg5 arg6 harg6 arg7 harg7 arg8 harg8 arg9 harg9 arg1 x0 x2 64)
      (Rect.unit (s := S8192x512) ![0, 0] ![8192, 512] inb).toLoadRect y = wb x0 x2 (jOf i) y := by
  have hc := View.readCov_eq_canon' (Val := Elt Ideal) arg9.view (allL c i arg2 harg2 arg3 harg3 arg4 harg4 arg5 harg5 arg6 harg6 arg7 harg7 arg8 harg8 arg9 harg9 arg1 x0 x2 64)
    (Rect.unit (s := S8192x512) ![0, 0] ![8192, 512] inb).toLoadRect
  refine (congrFun hc y).trans ?_
  have hy : (Rect.unit (s := S8192x512) ![0, 0] ![8192, 512] inb).toLoadRect.idx y = y := by
    funext a
    apply Fin.ext
    match a with
    | ⟨0, _⟩ => show 0 + 1 * (y 0).val = (y 0).val; omega
    | ⟨1, _⟩ => show 0 + 1 * (y 1).val = (y 1).val; omega
  refine (congrArg _ hy).trans ?_
  exact View.canon_apply_of_pieces (Val := Elt Ideal) (S := S8192x512) (e := .bf16) (wb x0 x2 (jOf i)) _
    (all_values c i arg2 harg2 arg3 harg3 arg4 harg4 arg5 harg5 arg6 harg6 arg7 harg7 arg8 harg8 arg9 harg9 arg1 x0 x2 64 le_rfl) y
    (all_cover c i arg2 harg2 arg3 harg3 arg4 harg4 arg5 harg5 arg6 harg6 arg7 harg7 arg8 harg8 arg9 harg9 arg1 x0 x2 y 64 le_rfl
      (show (y 0).val < 8192 from (y 0).isLt))

end

end Cert.KernelIdeal.Proj

end
-- ==== Proof.ProjBlock.lean ====
/- The projection's output block, element by element, from the six blocks it reads. -/
module

public import proofs.«01_k».proof.Proof.ProjHead
public import proofs.«01_k».proof.Proof.ProjWeights

@[expose] public section

set_option maxRecDepth 65536

noncomputable section

namespace Cert.KernelIdeal.Proj

open Cert.KernelIdeal.Gen Cert.Spec
open Idealize.ShloMosaic Idealize.ShloMosaic.TcCoe Idealize.ShloMosaic.ValueIdx Idealize.SL.Sem
open scoped BigOperators

/-- Lane `l` of the block's head `n`. -/
def lane (n : Fin 4) (l : Fin 128) : Fin 512 := ⟨128 * n.val + l.val, by omega⟩
/-- The tile column of the block's head `n`. -/
def tile (j : Fin 48) (n : Fin 4) : Fin 192 := ⟨4 * j.val + n.val, by omega⟩

/-- Head `n` of row `a` of the block of products. -/
def headP (x0 : S64x192.Idx → EReal) (x1 : S512x8192.Idx → EReal) (x2 : S8192x512.Idx → EReal) (j : Fin 48)
    (a : Fin 512) (n : Fin 4) (l : Fin 128) : EReal :=
  proj (fun d => x1 (ix2 a d)) (fun d => x2 (ix2 d (lane n l))) (fun g => x0 (ix2 g (tile j n)))

/-- The block's value at lane `e` of head `n` of row `a`. -/
def headV (x0 : S64x192.Idx → EReal) (x1 : S512x8192.Idx → EReal) (x2 : S8192x512.Idx → EReal)
    (x3 x4 : S512x128.Idx → EReal) (x5 : S1x1x128.Idx → EReal) (j : Fin 48) (a : Fin 512) (n : Fin 4) (e : Fin 128) : EReal :=
  if 32 ≤ j.val then headP x0 x1 x2 j a n e
  else turned (headP x0 x1 x2 j a n) (fun l => x5 (ix3 0 0 l)) (fun l => x3 (ix2 a l)) (fun l => x4 (ix2 a l)) e

/-- The block. -/
def blockV (x0 : S64x192.Idx → EReal) (x1 : S512x8192.Idx → EReal) (x2 : S8192x512.Idx → EReal)
    (x3 x4 : S512x128.Idx → EReal) (x5 : S1x1x128.Idx → EReal) (j : Fin 48) (y : S512x512.Idx) : EReal :=
  headV x0 x1 x2 x3 x4 x5 j (y 0) ⟨(y 1).val / 128, by have : (y 1).val < 512 := (y 1).isLt; omega⟩
    ⟨(y 1).val % 128, Nat.mod_lt _ (by decide)⟩

theorem select_passed (j : Fin 48) (u v : EReal) :
    Scalar.select (Scalar.cmpi .sge (Scalar.muli (BitVec.ofNat 32 j.val) 4#32) 128#32) u v = if 32 ≤ j.val then u else v := by
  rw [passed j]
  by_cases h : 32 ≤ j.val
  · rw [if_pos h, if_pos h]; rfl
  · rw [if_neg h, if_neg h]; rfl

/-- A head's output from the block of scaled weights. -/
theorem head_value (x0 : Vec Ideal S64x192 .f32) (x1 : Vec Ideal S512x8192 .bf16) (x2 : Vec Ideal S8192x512 .fp8e4m3)
    (x3 x4 : Vec Ideal S512x128 .f32) (x5 : Vec Ideal S1x1x128 .f32) (j : Fin 48) (W : Vec Ideal S8192x512 .bf16)
    (hW : ∀ y, W y = wb x0 x2 j y) (n : Fin 4) (o : ℕ) (ho : o = 128 * n.val) (h : S512x512.Slices ![0, o] S512x128)
    (a : Fin 512) (e : Fin 128) :
    headOut (F := Ideal) (Scalar.cmpi .sge (Scalar.muli (BitVec.ofNat 32 j.val) 4#32) 128#32)
      (extractStridedSlice S512x128 ![0, o] (k1_pay9 (F := Ideal) x1 W) h) (k1_pay10 (F := Ideal) x5) x3 x4 (ix2 a e)
      = headV x0 x1 x2 x3 x4 x5 j a n e := by
  subst ho
  have hp : ∀ l : Fin 128, extractStridedSlice S512x128 ![0, 128 * n.val] (k1_pay9 (F := Ideal) x1 W) h (ix2 a l)
      = headP x0 x1 x2 j a n l := by
    intro l
    refine (slice_apply _ _ h (by omega) a l).trans ((product_apply _ _ _ _).trans ?_)
    unfold headP proj
    refine Finset.sum_congr rfl fun d _ => ?_
    rw [hW]
    unfold wb
    refine congrArg (fun v => x1 (ix2 a d) * (x2 (ix2 d (lane n l)) * x0 v)) (funext fun b => Fin.ext ?_)
    match b with
    | ⟨0, _⟩ => rfl
    | ⟨1, _⟩ => show 4 * j.val + (128 * n.val + l.val) / 128 = 4 * j.val + n.val; omega
  have hw : ∀ l : Fin 128, k1_pay10 (F := Ideal) x5 (ix2 0 l) = x5 (ix3 0 0 l) := weight_apply x5
  rw [headOut_apply, select_passed]
  unfold headV
  simp only [hp, hw]

section
variable (c : Dev nD) (i : grid1.Coords) (arg2 : Memref sig .tc .smem S64x192 .f32) (harg2 : arg2.IsWhole) (arg3 : Memref sig .tc .vmem S512x8192 .bf16) (harg3 : arg3.IsWhole) (arg4 : Memref sig .tc .vmem S8192x512 .fp8e4m3) (harg4 : arg4.IsWhole) (arg5 : Memref sig .tc .vmem S512x128 .f32) (harg5 : arg5.IsWhole) (arg6 : Memref sig .tc .vmem S512x128 .f32) (harg6 : arg6.IsWhole) (arg7 : Memref sig .tc .vmem S1x1x128 .f32) (harg7 : arg7.IsWhole) (arg8 : Memref sig .tc .vmem S512x512 .bf16) (harg8 : arg8.IsWhole) (arg9 : Memref sig .tc .vmem S8192x512 .bf16) (harg9 : arg9.IsWhole)
  (x0 : Vec Ideal S64x192 .f32) (x1 : Vec Ideal S512x8192 .bf16) (x2 : Vec Ideal S8192x512 .fp8e4m3)
  (x3 x4 : Vec Ideal S512x128 .f32) (x5 : Vec Ideal S1x1x128 .f32)

/-- One store: a head's columns. -/
theorem store_value (n : Fin 4) (off : Fin 2 → ℕ) (h0 : off 0 = 0) (h1 : off 1 = 128 * n.val) (j : Fin 48)
    (inb : ∀ a, off a + (![512, 128] : Fin 2 → ℕ) a ≤ S512x512.size a)
    (x : (Rect.unit (s := S512x512) off ![512, 128] inb).shape.Idx) (v : EReal)
    (hv : v = headV x0 x1 x2 x3 x4 x5 j (x 0) n (x 1)) :
    v = blockV x0 x1 x2 x3 x4 x5 j ((Rect.unit (s := S512x512) off ![512, 128] inb).emb x) := by
  have hx1 : (x 1).val < 128 := (x 1).isLt
  rw [hv]
  have e0 : (x 0 : Fin 512) = (Rect.unit (s := S512x512) off ![512, 128] inb).emb x 0 :=
    Fin.ext (show (x 0).val = off 0 + 1 * (x 0).val by omega)
  unfold blockV
  have e1 : ((Rect.unit (s := S512x512) off ![512, 128] inb).emb x 1).val = 128 * n.val + (x 1).val := by
    show off 1 + 1 * (x 1).val = _; omega
  congr 1
  · exact Fin.ext (by show n.val = _ / 128; omega)
  · exact Fin.ext (by show (x 1).val = _ % 128; omega)

/-- The block the body leaves. -/
theorem block_value (y : S512x512.Idx) :
    out1_A_6 (F := Ideal) c i arg2 harg2 arg3 harg3 arg4 harg4 arg5 harg5 arg6 harg6 arg7 harg7 arg8 harg8 arg9 harg9 x0 x1 x2 x3 x4 x5 y
      = blockV x0 x1 x2 x3 x4 x5 (jOf i) y := by
  unfold out1_A_6
  refine (View.read_writes_junk_apply_eq_canon _ _ _).trans ?_
  refine View.canon_apply_of_pieces (Val := Elt Ideal) (S := S512x512) (e := .bf16) (blockV x0 x1 x2 x3 x4 x5 (jOf i)) _ ?_ y
    (cover1_A_6 c i arg2 harg2 arg3 harg3 arg4 harg4 arg5 harg5 arg6 harg6 arg7 harg7 arg8 harg8 arg9 harg9 x0 x1 x2 x3 x4 x5 y)
  unfold kernelRun1_A
  dsimp only
  sl_unfold_words
  simp only [View.readAt_eq_ld, Memref.IsWhole.read_unread]
  have l1 : View.ld x1 (Rect.unit ![0, 0] ![512, 8192] inb_S512x8192_S512x8192_0_0) = x1 := View.ld_unit_zero (S := S512x8192) (by decide) _ _
  have l3 : View.ld x3 (Rect.unit ![0, 0] ![512, 128] inb_S512x128_S512x128_0_0) = x3 := View.ld_unit_zero (S := S512x128) (by decide) _ _
  have l4 : View.ld x4 (Rect.unit ![0, 0] ![512, 128] inb_S512x128_S512x128_0_0) = x4 := View.ld_unit_zero (S := S512x128) (by decide) _ _
  have l5 : View.ld x5 (Rect.unit ![0, 0, 0] ![1, 1, 128] inb_S1x1x128_S1x1x128_0_0_0) = x5 := View.ld_unit_zero (S := S1x1x128) (by decide) _ _
  simp only [l1, l3, l4, l5]
  rw [trips_eq']
  have hk := fun y => kept c i arg2 harg2 arg3 harg3 arg4 harg4 arg5 harg5 arg6 harg6 arg7 harg7 arg8 harg8 arg9 harg9 (BitVec.ofNat 32 (i 1).val) x0 x2 y inb_S8192x512_S8192x512_0_0
  generalize arg9.view.readCov (allL c i arg2 harg2 arg3 harg3 arg4 harg4 arg5 harg5 arg6 harg6 arg7 harg7 arg8 harg8 arg9 harg9 (BitVec.ofNat 32 (i 1).val) x0 x2 64)
      (Rect.unit (s := S8192x512) ![0, 0] ![8192, 512] inb_S8192x512_S8192x512_0_0).toLoadRect = W at hk ⊢
  intro p hp
  rcases List.mem_cons.1 hp with rfl | hp
  · intro x
    refine store_value x0 x1 x2 x3 x4 x5 3 ![0, 384] rfl rfl (jOf i) inb_S512x512_S512x128_0_384 x _ ?_
    refine (congrArg _ (eq_ix2 x)).trans ?_
    exact head_value x0 x1 x2 x3 x4 x5 (jOf i) _ hk 3 384 rfl slices_S512x512_o0_384_S512x128 (x 0) (x 1)
  rcases List.mem_cons.1 hp with rfl | hp
  · intro x
    refine store_value x0 x1 x2 x3 x4 x5 2 ![0, 256] rfl rfl (jOf i) inb_S512x512_S512x128_0_256 x _ ?_
    refine (congrArg _ (eq_ix2 x)).trans ?_
    exact head_value x0 x1 x2 x3 x4 x5 (jOf i) _ hk 2 256 rfl slices_S512x512_o0_256_S512x128 (x 0) (x 1)
  rcases List.mem_cons.1 hp with rfl | hp
  · intro x
    refine store_value x0 x1 x2 x3 x4 x5 1 ![0, 128] rfl rfl (jOf i) inb_S512x512_S512x128_0_128 x _ ?_
    refine (congrArg _ (eq_ix2 x)).trans ?_
    exact head_value x0 x1 x2 x3 x4 x5 (jOf i) _ hk 1 128 rfl slices_S512x512_o0_128_S512x128 (x 0) (x 1)
  rcases List.mem_cons.1 hp with rfl | hp
  · intro x
    refine store_value x0 x1 x2 x3 x4 x5 0 ![0, 0] rfl rfl (jOf i) inb_S512x512_S512x128_0_0 x _ ?_
    refine (congrArg _ (eq_ix2 x)).trans ?_
    exact head_value x0 x1 x2 x3 x4 x5 (jOf i) _ hk 0 0 rfl slices_S512x512_o0_0_S512x128 (x 0) (x 1)
  exact absurd hp List.not_mem_nil

end

end Cert.KernelIdeal.Proj

end
-- ==== Proof.ProjArray.lean ====
/- The projection's array after its grid: every head of every row. -/
module

public import proofs.«01_k».proof.Proof.ProjBlock

@[expose] public section

set_option maxRecDepth 16384

noncomputable section

namespace Cert.KernelIdeal.Proj

open Cert.KernelIdeal.Gen Cert.Spec
open Idealize.ShloMosaic Idealize.ShloMosaic.TcCoe Idealize.ShloMosaic.ValueIdx Idealize.SL.Sem
open Idealize.ShloMosaic.Pipeline (Dat Cfg Window)

/-- Column `l` of head `n`. -/
def laneA (n : Fin 192) (l : Fin 128) : Fin 24576 := ⟨128 * n.val + l.val, by omega⟩
/-- The kind of head `n`: query, key or value. -/
def kindA (n : Fin 192) : Fin 3 := ⟨n.val / 64, by omega⟩

section
variable (X0 : S64x192.Idx → EReal) (X1 : S6144x8192.Idx → EReal) (X2 : S8192x24576.Idx → EReal)
  (X3 X4 : S6144x128.Idx → EReal) (X5 : S3x1x128.Idx → EReal)

/-- Head `n` of row `r` of the product. -/
def headPA (r : Fin 6144) (n : Fin 192) (l : Fin 128) : EReal :=
  proj (fun d => X1 (ix2 r d)) (fun d => X2 (ix2 d (laneA n l))) (fun g => X0 (ix2 g n))

/-- Lane `e` of head `n` of row `r`: value heads as they are, the others normalised and turned. -/
def headA (r : Fin 6144) (n : Fin 192) (e : Fin 128) : EReal :=
  if 128 ≤ n.val then headPA X0 X1 X2 r n e
  else turned (headPA X0 X1 X2 r n) (fun l => X5 (ix3 (kindA n) 0 l)) (fun l => X3 (ix2 r l)) (fun l => X4 (ix2 r l)) e

theorem headA_congr {r r' : Fin 6144} {n n' : Fin 192} {e e' : Fin 128} (hr : r = r') (hn : n.val = n'.val)
    (he : e.val = e'.val) : headA X0 X1 X2 X3 X4 X5 r n e = headA X0 X1 X2 X3 X4 X5 r' n' e' := by
  obtain rfl := hr; obtain rfl := Fin.ext hn; obtain rfl := Fin.ext he; rfl

/-- The array. -/
def arrA (i : S6144x24576.Idx) : EReal :=
  headA X0 X1 X2 X3 X4 X5 (i 0) ⟨(i 1).val / 128, by have : (i 1).val < 24576 := (i 1).isLt; omega⟩
    ⟨(i 1).val % 128, Nat.mod_lt _ (by decide)⟩
end

/-- The grid point's coordinates. -/
theorem point : ∀ t : Fin grid1.N, (grid1.coords t 0).val = t.val / 48 ∧ (grid1.coords t 1).val = t.val % 48 := by
  decide +kernel

/-- The blocks' places in their arrays, in closed form. -/
theorem places0 : ∀ t : Fin grid1.N, win1_0.index t 0 * win1_0.size 0 = 0 ∧ win1_0.index t 1 * win1_0.size 1 = 0 := by
  decide +kernel
theorem places1 : ∀ t : Fin grid1.N, win1_1.index t 0 * win1_1.size 0 = t.val / 48 * 512 ∧ win1_1.index t 1 * win1_1.size 1 = 0 := by
  decide +kernel
theorem places2 : ∀ t : Fin grid1.N, win1_2.index t 0 * win1_2.size 0 = 0 ∧ win1_2.index t 1 * win1_2.size 1 = t.val % 48 * 512 := by
  decide +kernel
theorem places3 : ∀ t : Fin grid1.N, win1_3.index t 0 * win1_3.size 0 = t.val / 48 * 512 ∧ win1_3.index t 1 * win1_3.size 1 = 0 := by
  decide +kernel
theorem places4 : ∀ t : Fin grid1.N, win1_4.index t 0 * win1_4.size 0 = t.val / 48 * 512 ∧ win1_4.index t 1 * win1_4.size 1 = 0 := by
  decide +kernel
theorem places5 : ∀ t : Fin grid1.N, win1_5.index t 0 * win1_5.size 0 = t.val % 48 / 16 ∧ win1_5.index t 1 * win1_5.size 1 = 0
    ∧ win1_5.index t 2 * win1_5.size 2 = 0 := by
  decide +kernel
theorem places6 : ∀ t : Fin grid1.N, win1_6.index t 0 * win1_6.size 0 = t.val / 48 * 512 ∧ win1_6.index t 1 * win1_6.size 1 = t.val % 48 * 512 := by
  decide +kernel
theorem extents6 : ∀ t : Fin grid1.N, win1_6.xsize (grid1.coords t) 0 = 512 ∧ win1_6.xsize (grid1.coords t) 1 = 512 := by
  decide +kernel

variable (V : (c : Dev nD) → (b : Ref sig .tc) → Buf (Elt Ideal) ((c : Thread nD τ).loc b)) (c : Dev nD)

theorem t_lt (t : Fin cfg1.N) : t.val < 576 := t.isLt

/-- The array's row of block row `a`. -/
def rowOf (t : Fin cfg1.N) (a : Fin 512) : Fin 6144 := ⟨t.val / 48 * 512 + a.val, by have := t_lt t; omega⟩
/-- The array's head of block head `n`. -/
def headOf (t : Fin cfg1.N) (n : Fin 4) : Fin 192 := ⟨4 * (t.val % 48) + n.val, by omega⟩

abbrev V0 : S64x192.Idx → EReal := V c main_arg3
abbrev V1 : S6144x8192.Idx → EReal := V c main_v3_2
abbrev V2 : S8192x24576.Idx → EReal := V c main_arg2
abbrev V3 : S6144x128.Idx → EReal := V c main_v27
abbrev V4 : S6144x128.Idx → EReal := V c main_v29
abbrev V5 : S3x1x128.Idx → EReal := V c main_v35

theorem blk0 (t : Fin cfg1.N) (g : Fin 64) (n : Fin 192) : iblk1 V c 0 t (ix2 g n) = V0 V c (ix2 g n) := by
  obtain ⟨e0, e1⟩ := places0 t
  refine congrArg (V0 V c) (funext fun x => Fin.ext ?_)
  match x with
  | ⟨0, _⟩ => show win1_0.index t 0 * win1_0.size 0 + 1 * g.val = g.val; rw [e0]; omega
  | ⟨1, _⟩ => show win1_0.index t 1 * win1_0.size 1 + 1 * n.val = n.val; rw [e1]; omega

theorem blk1 (t : Fin cfg1.N) (a : Fin 512) (d : Fin 8192) : iblk1 V c 1 t (ix2 a d) = V1 V c (ix2 (rowOf t a) d) := by
  obtain ⟨e0, e1⟩ := places1 t
  refine congrArg (V1 V c) (funext fun x => Fin.ext ?_)
  match x with
  | ⟨0, _⟩ => show win1_1.index t 0 * win1_1.size 0 + 1 * a.val = t.val / 48 * 512 + a.val; rw [e0]; omega
  | ⟨1, _⟩ => show win1_1.index t 1 * win1_1.size 1 + 1 * d.val = d.val; rw [e1]; omega

theorem blk2 (t : Fin cfg1.N) (d : Fin 8192) (n : Fin 4) (l : Fin 128) :
    iblk1 V c 2 t (ix2 d (lane n l)) = V2 V c (ix2 d (laneA (headOf t n) l)) := by
  obtain ⟨e0, e1⟩ := places2 t
  refine congrArg (V2 V c) (funext fun x => Fin.ext ?_)
  match x with
  | ⟨0, _⟩ => show win1_2.index t 0 * win1_2.size 0 + 1 * d.val = d.val; rw [e0]; omega
  | ⟨1, _⟩ =>
    show win1_2.index t 1 * win1_2.size 1 + 1 * (128 * n.val + l.val) = 128 * (4 * (t.val % 48) + n.val) + l.val
    rw [e1]; omega

theorem blk3 (t : Fin cfg1.N) (a : Fin 512) (l : Fin 128) : iblk1 V c 3 t (ix2 a l) = V3 V c (ix2 (rowOf t a) l) := by
  obtain ⟨e0, e1⟩ := places3 t
  refine congrArg (V3 V c) (funext fun x => Fin.ext ?_)
  match x with
  | ⟨0, _⟩ => show win1_3.index t 0 * win1_3.size 0 + 1 * a.val = t.val / 48 * 512 + a.val; rw [e0]; omega
  | ⟨1, _⟩ => show win1_3.index t 1 * win1_3.size 1 + 1 * l.val = l.val; rw [e1]; omega

theorem blk4 (t : Fin cfg1.N) (a : Fin 512) (l : Fin 128) : iblk1 V c 4 t (ix2 a l) = V4 V c (ix2 (rowOf t a) l) := by
  obtain ⟨e0, e1⟩ := places4 t
  refine congrArg (V4 V c) (funext fun x => Fin.ext ?_)
  match x with
  | ⟨0, _⟩ => show win1_4.index t 0 * win1_4.size 0 + 1 * a.val = t.val / 48 * 512 + a.val; rw [e0]; omega
  | ⟨1, _⟩ => show win1_4.index t 1 * win1_4.size 1 + 1 * l.val = l.val; rw [e1]; omega

theorem blk5 (t : Fin cfg1.N) (n : Fin 4) (l : Fin 128) :
    iblk1 V c 5 t (ix3 0 0 l) = V5 V c (ix3 (kindA (headOf t n)) 0 l) := by
  obtain ⟨e0, e1, e2⟩ := places5 t
  refine congrArg (V5 V c) (funext fun x => Fin.ext ?_)
  match x with
  | ⟨0, _⟩ =>
    show win1_5.index t 0 * win1_5.size 0 + 1 * 0 = (4 * (t.val % 48) + n.val) / 64
    rw [e0]; omega
  | ⟨1, _⟩ => show win1_5.index t 1 * win1_5.size 1 + 1 * 0 = 0; rw [e1]
  | ⟨2, _⟩ => show win1_5.index t 2 * win1_5.size 2 + 1 * l.val = l.val; rw [e2]; omega

theorem j_eq (t : Fin cfg1.N) : (jOf (grid1.coords t)).val = t.val % 48 := (point t).2

theorem head_block (t : Fin cfg1.N) (a : Fin 512) (n : Fin 4) (e : Fin 128) :
    headV (iblk1 V c 0 t) (iblk1 V c 1 t) (iblk1 V c 2 t) (iblk1 V c 3 t) (iblk1 V c 4 t) (iblk1 V c 5 t)
        (jOf (grid1.coords t)) a n e
      = headA (V0 V c) (V1 V c) (V2 V c) (V3 V c) (V4 V c) (V5 V c) (rowOf t a) (headOf t n) e := by
  have hj := j_eq t
  have hp : ∀ l, headP (iblk1 V c 0 t) (iblk1 V c 1 t) (iblk1 V c 2 t) (jOf (grid1.coords t)) a n l
      = headPA (V0 V c) (V1 V c) (V2 V c) (rowOf t a) (headOf t n) l := by
    intro l
    unfold headP headPA proj
    have ht : tile (jOf (grid1.coords t)) n = headOf t n := Fin.ext (show 4 * _ + n.val = 4 * _ + n.val by rw [hj])
    refine Finset.sum_congr rfl fun d _ => ?_
    rw [ht]
    exact congrArg₂ (· * ·) (blk1 V c t a d) (congrArg₂ (· * ·) (blk2 V c t d n l) (blk0 V c t _ _))
  unfold headV headA
  have hc : (32 ≤ (jOf (grid1.coords t)).val) ↔ (128 ≤ (headOf t n).val) := by
    rw [hj]; show _ ↔ 128 ≤ 4 * (t.val % 48) + n.val; omega
  simp only [hc]
  rw [funext hp, show (fun l => iblk1 V c 5 t (ix3 0 0 l)) = _ from funext fun l => blk5 V c t n l,
    show (fun l => iblk1 V c 3 t (ix2 a l)) = _ from funext fun l => blk3 V c t a l,
    show (fun l => iblk1 V c 4 t (ix2 a l)) = _ from funext fun l => blk4 V c t a l]

/-- The projection's array as a function of the arrays it reads. -/
def outA : S6144x24576.Idx → EReal := arrA (V0 V c) (V1 V c) (V2 V c) (V3 V c) (V4 V c) (V5 V c)

theorem flushed6 (t : Fin cfg1.N) :
    (dat1 V c).flushed 6 t = ((cfg1.win 6).blk t).view.read (Elt Ideal) (outA V c) := by
  show (cfg1.win 6).cut (grid1.coords t) ((dat1 V c).after 6 t) = _
  rw [after1_6]
  funext y
  obtain ⟨e0, e1⟩ := places6 t
  have h0 : (y 0).val < 512 := lt_of_lt_of_eq (y 0).isLt (extents6 t).1
  have h1 : (y 1).val < 512 := lt_of_lt_of_eq (y 1).isLt (extents6 t).2
  unfold outsAt1
  refine (block_value c (grid1.coords t) _ _ _ _ _ _ _ _ _ _ _ _ _ _ _ _ _ _ _ _ _ _ _).trans ?_
  unfold blockV
  refine (head_block V c t _ _ _).trans ?_
  have hlast : outA V c (((cfg1.win 6).blk t).view.emb y)
      = headA (V0 V c) (V1 V c) (V2 V c) (V3 V c) (V4 V c) (V5 V c) (rowOf t ⟨(y 0).val, h0⟩) (headOf t ⟨(y 1).val / 128, by omega⟩) ⟨(y 1).val % 128, Nat.mod_lt _ (by decide)⟩ := by
    unfold outA arrA
    have c0 : (((cfg1.win 6).blk t).view.emb y 0).val = t.val / 48 * 512 + (y 0).val := by
      show win1_6.index t 0 * win1_6.size 0 + 1 * (y 0).val = _; rw [e0]; omega
    have c1 : (((cfg1.win 6).blk t).view.emb y 1).val = t.val % 48 * 512 + (y 1).val := by
      show win1_6.index t 1 * win1_6.size 1 + 1 * (y 1).val = _; rw [e1]; omega
    have g0 : ((cfg1.win 6).blk t).view.emb y 0 = rowOf t ⟨(y 0).val, h0⟩ := Fin.ext c0
    exact headA_congr _ _ _ _ _ _ g0
      (by show (((cfg1.win 6).blk t).view.emb y 1).val / 128 = 4 * (t.val % 48) + (y 1).val / 128; rw [c1]; omega)
      (by show (((cfg1.win 6).blk t).view.emb y 1).val % 128 = (y 1).val % 128; rw [c1]; omega)
  exact hlast.symm

theorem cover6 (i : S6144x24576.Idx) : ∃ t : Fin cfg1.N, (cfg1.win 6).flush t = true ∧ i ∈ ((cfg1.win 6).blk t).view.set := by
  have h0 : (i 0).val < 6144 := (i 0).isLt
  have h1 : (i 1).val < 24576 := (i 1).isLt
  let t : Fin cfg1.N := ⟨(i 0).val / 512 * 48 + (i 1).val / 512, show _ < 576 by omega⟩
  refine ⟨t, flush1_6 _, ?_⟩
  show i ∈ ((View.whole main_v36).slice (win1_6.rect t)).set
  rw [View.set_slice_whole, Rect.mem_set_unit]
  obtain ⟨e0, e1⟩ := places6 t
  obtain ⟨f0, f1⟩ := extents6 t
  have ht : t.val = (i 0).val / 512 * 48 + (i 1).val / 512 := rfl
  intro a
  match a with
  | ⟨0, _⟩ =>
    show win1_6.index t 0 * win1_6.size 0 ≤ (i 0).val ∧ (i 0).val < win1_6.index t 0 * win1_6.size 0 + win1_6.xsize (grid1.coords t) 0
    rw [e0, f0]; omega
  | ⟨1, _⟩ =>
    show win1_6.index t 1 * win1_6.size 1 ≤ (i 1).val ∧ (i 1).val < win1_6.index t 1 * win1_6.size 1 + win1_6.xsize (grid1.coords t) 1
    rw [e1, f1]; omega

/-- The projection's array after the grid. -/
theorem arr6 : (dat1 V c).arrAt 6 cfg1.N = outA V c :=
  (dat1 V c).arrAt_eq_of_cover 6 (outA V c) (fun t _ => flushed6 V c t) cover6

end Cert.KernelIdeal.Proj

end
-- ==== Proof.KernelValue.lean ====
/- The kernel's five results as functions of its arguments. -/
module

public import proofs.«01_k».proof.Proof.KernelTables
public import proofs.«01_k».proof.Proof.QuantArray
public import proofs.«01_k».proof.Proof.ProjArray

@[expose] public section

set_option maxRecDepth 16384

noncomputable section

namespace Cert.KernelIdeal.Value

open Cert.KernelIdeal Cert.KernelIdeal.Gen Cert.Spec
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- The seven arguments. -/
abbrev a0 : S1x6144x8192.Idx → EReal := m ((c : Thread nD τ).loc main_arg0)
abbrev a1 : S8192.Idx → EReal := m ((c : Thread nD τ).loc main_arg1)
abbrev a2 : S8192x24576.Idx → EReal := m ((c : Thread nD τ).loc main_arg2)
abbrev a3 : S64x192.Idx → EReal := m ((c : Thread nD τ).loc main_arg3)
abbrev a4 : S1.Idx → BitVec 32 := m ((c : Thread nD τ).loc main_arg4)
abbrev a5 : S128.Idx → EReal := m ((c : Thread nD τ).loc main_arg5)
abbrev a6 : S128.Idx → EReal := m ((c : Thread nD τ).loc main_arg6)

theorem row_eq (r : Fin 6144) : Quant.rowA (V1 m ρ) c r = xRow (a0 m c) r := by
  funext d
  refine (congrFun (HostLines.read_v0 (W0 m ρ c)) (ix2 r d)).trans ?_
  exact shapeCast_apply _ shapeCasts_S1x6144x8192_S6144x8192 (ix2 r d) (ix3 0 r d) (by
    rw [Shape.rowMajor_val_two, Shape.rowMajor_val_three]; show (0 * 6144 + r.val) * 8192 + d.val = r.val * 8192 + d.val; omega)

theorem weight_eq : Quant.wA (V1 m ρ) c = wRow (a1 m c) := by
  funext d
  refine (congrFun (HostLines.read_v2 (W0 m ρ c)) (ix2 0 d)).trans ?_
  exact shapeCast_apply _ shapeCasts_S8192_S1x8192 (ix2 0 d) (ix1 d) (by
    rw [Shape.rowMajor_val_one, Shape.rowMajor_val_two]; show d.val = 0 * 8192 + d.val; omega)

/-- What the first grid leaves stays until the second. -/
theorem keep3 (r : Ref sig .tc) (h : r ∉ hostOps1_W) : W3 m ρ c (Proc.devRef .tc r) = W2 m ρ c (Proc.devRef .tc r) := W3_of m ρ c r h

section
variable (hw : ∀ d, mag (a1 m c (ix1 d)) ≤ wMax)
include hw

theorem hwA (d : Fin 8192) : mag (Quant.wA (V1 m ρ) c d) ≤ wMax := by rw [weight_eq]; exact hw d

theorem codes_eq : W2 m ρ c (Proc.devRef .tc main_v3_0) = fun i : S6144x8192.Idx => code (xRow (a0 m c) (i 0)) (wRow (a1 m c)) (i 1) := by
  refine (W2_arr m ρ c 2).trans ((Quant.arr2 (V1 m ρ) c (hwA m ρ c hw)).trans ?_)
  funext i
  exact congrArg₂ (fun r w => code r w (i 1)) (row_eq m ρ c (i 0)) (weight_eq m ρ c)

theorem scales_eq : W2 m ρ c (Proc.devRef .tc main_v3_1) = fun i : S6144x64.Idx => xScale (xRow (a0 m c) (i 0)) (wRow (a1 m c)) (i 1) := by
  refine (W2_arr m ρ c 3).trans ((Quant.arr3 (V1 m ρ) c (hwA m ρ c hw)).trans ?_)
  funext i
  exact congrArg₂ (fun r w => xScale r w (i 1)) (row_eq m ρ c (i 0)) (weight_eq m ρ c)

theorem xa_eq : W2 m ρ c (Proc.devRef .tc main_v3_2) = fun i : S6144x8192.Idx => xa (xRow (a0 m c) (i 0)) (wRow (a1 m c)) (i 1) := by
  refine (W2_arr m ρ c 4).trans ((Quant.arr4 (V1 m ρ) c (hwA m ρ c hw)).trans ?_)
  funext i
  exact congrArg₂ (fun r w => xa r w (i 1)) (row_eq m ρ c (i 0)) (weight_eq m ρ c)
end

theorem arg_at2 (r : Ref sig .tc) (hr : r ∈ argRefs) : W2 m ρ c (Proc.devRef .tc r) = m ((c : Thread nD τ).loc r) := W2_args m ρ c r hr

theorem cos_eq : V3 m ρ c main_v27 = HostLines.cosT (a4 m c) :=
  (HostLines.read_v27 (W2 m ρ c)).trans (congrArg HostLines.cosT (arg_at2 m ρ c main_arg4 (by decide)))

theorem sin_eq : V3 m ρ c main_v29 = HostLines.sinT (a4 m c) :=
  (HostLines.read_v29 (W2 m ρ c)).trans (congrArg HostLines.sinT (arg_at2 m ρ c main_arg4 (by decide)))

theorem head_eq : V3 m ρ c main_v35 = HostLines.headT (a5 m c) (a6 m c) :=
  (HostLines.read_v35 (W2 m ρ c)).trans (congrArg₂ HostLines.headT (arg_at2 m ρ c main_arg5 (by decide)) (arg_at2 m ρ c main_arg6 (by decide)))

theorem arr_eq : W4 m ρ c (Proc.devRef .tc main_v36) = Proj.outA (V3 m ρ) c :=
  (W4_arr m ρ c 6).trans (Proj.arr6 (V3 m ρ) c)

section
variable (hw : ∀ d, mag (a1 m c (ix1 d)) ≤ wMax)
include hw

/-- A head of the product, in the arguments. -/
theorem headPA_eq (r : Fin 6144) (n : Fin 192) :
    Proj.headPA (V3 m ρ c main_arg3) (V3 m ρ c main_v3_2) (V3 m ρ c main_arg2) r n
      = headOf (a0 m c) (a1 m c) (a2 m c) (a3 m c) r n := by
  have h2 : V3 m ρ c main_v3_2 = fun i : S6144x8192.Idx => xa (xRow (a0 m c) (i 0)) (wRow (a1 m c)) (i 1) :=
    (W3_of m ρ c main_v3_2 (by decide)).trans (xa_eq m ρ c hw)
  have h3 : V3 m ρ c main_arg3 = a3 m c := W3_args m ρ c main_arg3 (by decide)
  have h4 : V3 m ρ c main_arg2 = a2 m c := W3_args m ρ c main_arg2 (by decide)
  rw [h2, h3, h4]
  rfl

/-- A query or key head. -/
theorem turned_eq (r : Fin 6144) (n : Fin 192) (e : Fin 128) (hn : n.val < 128) :
    Proj.headA (V3 m ρ c main_arg3) (V3 m ρ c main_v3_2) (V3 m ρ c main_arg2) (V3 m ρ c main_v27) (V3 m ρ c main_v29) (V3 m ρ c main_v35) r n e
      = turned (headOf (a0 m c) (a1 m c) (a2 m c) (a3 m c) r n)
          (fun l => if n.val < 64 then a5 m c (ix1 l) else a6 m c (ix1 l)) (cs (a4 m c (ix1 0)) r) (sn (a4 m c (ix1 0)) r) e := by
  unfold Proj.headA
  rw [if_neg (by omega), headPA_eq m ρ c hw, cos_eq, sin_eq, head_eq]
  have h5 : (fun l => HostLines.headT (a5 m c) (a6 m c) (ix3 (Proj.kindA n) 0 l)) = fun l => if n.val < 64 then a5 m c (ix1 l) else a6 m c (ix1 l) := by
    funext l
    rw [HostLines.headT_apply]
    have : ((Proj.kindA n).val = 0) ↔ (n.val < 64) := by show n.val / 64 = 0 ↔ _; omega
    simp only [this]
  rw [h5]
  rw [show (fun l => HostLines.cosT (a4 m c) (ix2 r l)) = cs (a4 m c (ix1 0)) r from funext fun l => HostLines.cosT_apply (a4 m c) r l,
    show (fun l => HostLines.sinT (a4 m c) (ix2 r l)) = sn (a4 m c (ix1 0)) r from funext fun l => HostLines.sinT_apply (a4 m c) r l]

/-- A value head. -/
theorem plain_eq (r : Fin 6144) (n : Fin 192) (e : Fin 128) (hn : 128 ≤ n.val) :
    Proj.headA (V3 m ρ c main_arg3) (V3 m ρ c main_v3_2) (V3 m ρ c main_arg2) (V3 m ρ c main_v27) (V3 m ρ c main_v29) (V3 m ρ c main_v35) r n e
      = headOf (a0 m c) (a1 m c) (a2 m c) (a3 m c) r n e := by
  unfold Proj.headA
  rw [if_pos hn, headPA_eq m ρ c hw]
end

/-- A third of the projection's array, cut into heads. -/
theorem cut_apply (off : Nat) (base : Nat) (hb : base ≤ 128) (ho : off = 128 * base) (h : S6144x24576.Slices ![0, off] S6144x8192)
    (i : S1x6144x64x128.Idx) :
    shapeCast S1x6144x64x128 (extractStridedSlice S6144x8192 ![0, off] (Proj.outA (V3 m ρ) c : S6144x24576.Idx → EReal) h)
        shapeCasts_S6144x8192_S1x6144x64x128 i
      = Proj.headA (V3 m ρ c main_arg3) (V3 m ρ c main_v3_2) (V3 m ρ c main_arg2) (V3 m ρ c main_v27) (V3 m ρ c main_v29) (V3 m ρ c main_v35)
          (i 1) ⟨base + (i 2).val, by have : (i 2).val < 64 := (i 2).isLt; omega⟩ (i 3) := by
  have h0 : (i 0).val < 1 := (i 0).isLt
  have h1 : (i 1).val < 6144 := (i 1).isLt
  have h2 : (i 2).val < 64 := (i 2).isLt
  have h3 : (i 3).val < 128 := (i 3).isLt
  refine (shapeCast_apply _ shapeCasts_S6144x8192_S1x6144x64x128 i (ix2 ⟨(i 1).val, h1⟩ ⟨128 * (i 2).val + (i 3).val, by omega⟩) (by
    rw [Shape.rowMajor_val_two, Shape.rowMajor_val_four]
    show (i 1).val * 8192 + (128 * (i 2).val + (i 3).val) = (((i 0).val * 6144 + (i 1).val) * 64 + (i 2).val) * 128 + (i 3).val
    omega)).trans ?_
  refine (extractStridedSlice_apply ![0, off] _ h _ (ix2 ⟨(i 1).val, h1⟩ ⟨off + (128 * (i 2).val + (i 3).val), by omega⟩) (fun a => match a with
    | ⟨0, _⟩ => (by show (i 1).val = 0 + (i 1).val; omega)
    | ⟨1, _⟩ => rfl)).trans ?_
  unfold Proj.outA Proj.arrA
  refine Proj.headA_congr _ _ _ _ _ _ (Fin.ext rfl) ?_ ?_
  · show (off + (128 * (i 2).val + (i 3).val)) / 128 = base + (i 2).val; omega
  · show (off + (128 * (i 2).val + (i 3).val)) % 128 = (i 3).val; omega

section
variable (hw : ∀ d, mag (a1 m c (ix1 d)) ≤ wMax)
include hw

theorem res_q : W5 m ρ c (Proc.devRef .tc main_v38)
    = outTurned (a0 m c) (a1 m c) (a2 m c) (a3 m c) (a4 m c) (a5 m c) 0 (by decide) := by
  refine (HostLines.read_v38 (W4 m ρ c)).trans ?_
  rw [arr_eq]
  funext i
  have h2 : (i 2).val < 64 := (i 2).isLt
  refine (cut_apply m ρ c 0 0 (by decide) rfl slices_S6144x24576_S6144x8192_0_0 i).trans ?_
  refine (turned_eq m ρ c hw _ _ _ (show 0 + (i 2).val < 128 by omega)).trans ?_
  unfold outTurned
  have : 0 + (i 2).val < 64 := by omega
  simp only [this, if_true]

theorem res_k : W5 m ρ c (Proc.devRef .tc main_v40)
    = outTurned (a0 m c) (a1 m c) (a2 m c) (a3 m c) (a4 m c) (a6 m c) 64 (by decide) := by
  refine (HostLines.read_v40 (W4 m ρ c)).trans ?_
  rw [arr_eq]
  funext i
  have h2 : (i 2).val < 64 := (i 2).isLt
  refine (cut_apply m ρ c 8192 64 (by decide) rfl slices_S6144x24576_S6144x8192_0_8192 i).trans ?_
  refine (turned_eq m ρ c hw _ _ _ (show 64 + (i 2).val < 128 by omega)).trans ?_
  unfold outTurned
  have : ¬ 64 + (i 2).val < 64 := by omega
  simp only [this, if_false]

theorem res_v : W5 m ρ c (Proc.devRef .tc main_v42) = outPlain (a0 m c) (a1 m c) (a2 m c) (a3 m c) := by
  refine (HostLines.read_v42 (W4 m ρ c)).trans ?_
  rw [arr_eq]
  funext i
  refine (cut_apply m ρ c 16384 128 (by decide) rfl slices_S6144x24576_S6144x8192_0_16384 i).trans ?_
  exact plain_eq m ρ c hw _ _ _ (show 128 ≤ 128 + (i 2).val by omega)

theorem res_codes : W5 m ρ c (Proc.devRef .tc main_v43) = outCodes (a0 m c) (a1 m c) := by
  refine (HostLines.read_v43 (W4 m ρ c)).trans ?_
  rw [W4_of_ne m ρ c main_v3_0 (by decide), W3_of m ρ c main_v3_0 (by decide), codes_eq m ρ c hw]
  funext i
  have h0 : (i 0).val < 1 := (i 0).isLt
  exact shapeCast_apply _ shapeCasts_S6144x8192_S1x6144x8192 i (ix2 (i 1) (i 2)) (by
    rw [Shape.rowMajor_val_two, Shape.rowMajor_val_three]
    show (i 1).val * 8192 + (i 2).val = ((i 0).val * 6144 + (i 1).val) * 8192 + (i 2).val
    omega)

theorem res_scales : W5 m ρ c (Proc.devRef .tc main_v44) = outScales (a0 m c) (a1 m c) := by
  refine (HostLines.read_v44 (W4 m ρ c)).trans ?_
  rw [W4_of_ne m ρ c main_v3_1 (by decide), W3_of m ρ c main_v3_1 (by decide), scales_eq m ρ c hw]
  funext i
  have h0 : (i 0).val < 1 := (i 0).isLt
  exact shapeCast_apply _ shapeCasts_S6144x64_S1x6144x64 i (ix2 (i 1) (i 2)) (by
    rw [Shape.rowMajor_val_two, Shape.rowMajor_val_three]
    show (i 1).val * 64 + (i 2).val = ((i 0).val * 6144 + (i 1).val) * 64 + (i 2).val
    omega)
end

end Cert.KernelIdeal.Value

end
-- ==== Proof.Precondition.lean ====
/- What the precondition says: every weight of the first normalisation is at most the greatest finite bf16 in magnitude. -/
module

public import proofs.«01_k».proof.Proof.KernelValue
public import proofs.«01_k».proof.Defs

@[expose] public section

noncomputable section

namespace Cert.Weights

open Cert.KernelIdeal Cert.Spec
open Idealize.ShloMosaic Idealize.ShloMosaic.TcCoe Idealize.ShloMosaic.ValueIdx

theorem le_of_flag {a b : EReal} (h : BitVec.ofBool (decide (a ≤ b)) = 1#1) : a ≤ b := by
  by_contra hn
  rw [decide_eq_false hn] at h
  exact absurd h (by decide)

theorem bounded [Cert.Pre_finite_weights.Facts] (m : (ℓ : Loc nD τ sig) → Buf (Elt Ideal) ℓ)
    (h : Cert.Pre_KernelIdeal_finite_weights m) (c : Dev nD) (d : Fin 8192) : mag (Value.a1 m c (ix1 d)) ≤ wMax :=
  le_of_flag (congrFun (h c) (ix1 d))

end Cert.Weights

end
-- ==== Proof.RefProduct.lean ====
/- The reference's product: scaled-back codes against scaled weights, cut into heads. -/
module

public import proofs.«01_k».proof.Proof.Gen.ReferenceIdeal.Read
public import proofs.«01_k».proof.Proof.ResultSpec
public import Idealize.ShloMosaic.Lib.IdealHost

@[expose] public section

set_option maxRecDepth 16384

noncomputable section

namespace Cert.ReferenceIdeal.Tail

open Cert.ReferenceIdeal Cert.ReferenceIdeal.Gen Cert.ReferenceIdeal.Read Cert.Spec
open Idealize.ShloMosaic Idealize.ShloMosaic.TcCoe Idealize.ShloMosaic.ValueIdx
open scoped BigOperators

variable (x3 : FVec Ideal S64x192 .f32) (r1 : FVec Ideal S1x6144x8192 .bf16) (r2 : FVec Ideal S8192x24576 .bf16) (e0 : FVec Ideal S1x6144x64 .f32)

/-- Lane `d`'s place in its group. -/
def inGrp (d : Fin 8192) : Fin 128 := ⟨d.val % 128, Nat.mod_lt _ (by decide)⟩

theorem scaleBack_apply (s : Fin 6144) (g : Fin 64) (l : Fin 128) : val_main_v46 (F := Ideal) e0 (ix4 0 s g l) = (e0 (ix3 0 s g) : EReal) := by
  refine (val_main_v46_apply (F := Ideal) e0 _).trans ((val_main_v45_apply (F := Ideal) e0 _).trans ((val_main_v44_apply (F := Ideal) e0 _).trans ?_))
  exact congrArg (e0 : S1x6144x64.Idx → EReal) (funext fun a => match a with | ⟨0, _⟩ => rfl | ⟨1, _⟩ => rfl | ⟨2, _⟩ => rfl)

theorem xa_apply (s : Fin 6144) (d : Fin 8192) :
    (val_main_v48 (F := Ideal) r1 e0 (ix3 0 s d) : EReal) = r1 (ix3 0 s d) * e0 (ix3 0 s (grp d)) := by
  have hd : d.val < 8192 := d.isLt
  have h1 : val_main_v43 (F := Ideal) r1 (ix4 0 s (grp d) (inGrp d)) = r1 (ix3 0 s d) :=
    shapeCast_apply r1 shapeCasts_S1x6144x8192_S1x6144x64x128 (ix4 0 s (grp d) (inGrp d)) (ix3 0 s d) (by
      rw [Shape.rowMajor_val_three, Shape.rowMajor_val_four]
      show (0 * 6144 + s.val) * 8192 + d.val = ((0 * 6144 + s.val) * 64 + d.val / 128) * 128 + d.val % 128
      omega)
  refine (shapeCast_apply (val_main_v47 (F := Ideal) r1 e0) shapeCasts_S1x6144x64x128_S1x6144x8192 (ix3 0 s d) (ix4 0 s (grp d) (inGrp d)) (by
    rw [Shape.rowMajor_val_three, Shape.rowMajor_val_four]
    show ((0 * 6144 + s.val) * 64 + d.val / 128) * 128 + d.val % 128 = (0 * 6144 + s.val) * 8192 + d.val
    omega)).trans ?_
  exact congrArg₂ (fun a b : EReal => a * b) h1 (scaleBack_apply e0 s (grp d) (inGrp d))

theorem weightScale_apply (g : Fin 64) (k : Fin 128) (n : Fin 192) (l : Fin 128) :
    val_main_v52 (F := Ideal) x3 (ix4 g k n l) = (x3 (ix2 g n) : EReal) := by
  refine (val_main_v52_apply (F := Ideal) x3 _).trans ((val_main_v51_apply (F := Ideal) x3 _).trans ((val_main_v50_apply (F := Ideal) x3 _).trans ?_))
  exact congrArg (x3 : S64x192.Idx → EReal) (funext fun a => match a with | ⟨0, _⟩ => rfl | ⟨1, _⟩ => rfl)

theorem wa_apply (d : Fin 8192) (n : Fin 192) (l : Fin 128) :
    (val_main_v54 (F := Ideal) x3 r2 (ix2 d (headLane n l)) : EReal) = r2 (ix2 d (headLane n l)) * x3 (ix2 (grp d) n) := by
  have hd : d.val < 8192 := d.isLt
  have h1 : val_main_v49 (F := Ideal) r2 (ix4 (grp d) (inGrp d) n l) = r2 (ix2 d (headLane n l)) :=
    shapeCast_apply r2 shapeCasts_S8192x24576_S64x128x192x128 (ix4 (grp d) (inGrp d) n l) (ix2 d (headLane n l)) (by
      rw [Shape.rowMajor_val_two, Shape.rowMajor_val_four]
      show d.val * 24576 + (128 * n.val + l.val) = ((d.val / 128 * 128 + d.val % 128) * 192 + n.val) * 128 + l.val
      omega)
  refine (shapeCast_apply (val_main_v53 (F := Ideal) x3 r2) shapeCasts_S64x128x192x128_S8192x24576 (ix2 d (headLane n l)) (ix4 (grp d) (inGrp d) n l) (by
    rw [Shape.rowMajor_val_two, Shape.rowMajor_val_four]
    show ((d.val / 128 * 128 + d.val % 128) * 192 + n.val) * 128 + l.val = d.val * 24576 + (128 * n.val + l.val)
    omega)).trans ?_
  exact congrArg₂ (fun a b : EReal => a * b) h1 (weightScale_apply x3 (grp d) (inGrp d) n l)

/-- Head `n` of row `s` of the product, in the reference's arrays. -/
def headR (s : Fin 6144) (n : Fin 192) (l : Fin 128) : EReal :=
  proj (fun d => (r1 (ix3 0 s d) : EReal) * e0 (ix3 0 s (grp d))) (fun d => r2 (ix2 d (headLane n l))) (fun g => x3 (ix2 g n))

theorem product_apply (s : Fin 6144) (n : Fin 192) (l : Fin 128) :
    (val_main_v55 (F := Ideal) x3 r1 r2 e0 (ix3 0 s (headLane n l)) : EReal) = headR x3 r1 r2 e0 s n l := by
  refine (val_main_v55_apply x3 r1 r2 e0 _).trans ?_
  unfold headR proj
  refine Finset.sum_congr rfl fun d _ => ?_
  have hl : lidx_main_v55 (ix3 0 s (headLane n l)) d = ix3 0 s d :=
    funext fun a => match a with | ⟨0, _⟩ => rfl | ⟨1, _⟩ => rfl | ⟨2, _⟩ => rfl
  have hr : ridx_main_v55 (ix3 0 s (headLane n l)) d = ix2 d (headLane n l) :=
    funext fun a => match a with | ⟨0, _⟩ => rfl | ⟨1, _⟩ => rfl
  exact congrArg₂ (fun a b : EReal => a * b) ((congrArg (val_main_v48 (F := Ideal) r1 e0) hl).trans (xa_apply r1 e0 s d))
    ((congrArg (val_main_v54 (F := Ideal) x3 r2) hr).trans (wa_apply x3 r2 d n l))

/-- The heads of a slice of the product that starts at head `base`. -/
theorem heads_apply (base o : Nat) (ho : o = 128 * base) (hb : base ≤ 128)
    (hs : S1x6144x24576.Slices ![0, 0, o] S1x6144x8192) (s : Fin 6144) (h : Fin 64) (l : Fin 128) :
    (shapeCast S1x6144x64x128 (extractStridedSlice S1x6144x8192 ![0, 0, o] (val_main_v55 (F := Ideal) x3 r1 r2 e0) hs)
      shapeCasts_S1x6144x8192_S1x6144x64x128 (ix4 0 s h l) : EReal)
      = headR x3 r1 r2 e0 s ⟨base + h.val, by omega⟩ l := by
  have hh : 128 * h.val + l.val < 8192 := by have := h.isLt; have := l.isLt; omega
  refine (shapeCast_apply _ shapeCasts_S1x6144x8192_S1x6144x64x128 (ix4 0 s h l) (ix3 0 s ⟨128 * h.val + l.val, hh⟩) (by
    rw [Shape.rowMajor_val_three, Shape.rowMajor_val_four]
    show (0 * 6144 + s.val) * 8192 + (128 * h.val + l.val) = ((0 * 6144 + s.val) * 64 + h.val) * 128 + l.val
    omega)).trans ?_
  refine (extractStridedSlice_apply _ _ hs (ix3 0 s ⟨128 * h.val + l.val, hh⟩) (ix3 0 s (headLane ⟨base + h.val, by omega⟩ l)) (fun a => match a with
    | ⟨0, _⟩ => rfl
    | ⟨1, _⟩ => by show s.val = 0 + s.val; omega
    | ⟨2, _⟩ => by show 128 * (base + h.val) + l.val = o + (128 * h.val + l.val); omega)).trans ?_
  exact product_apply x3 r1 r2 e0 s _ l

end Cert.ReferenceIdeal.Tail

end
-- ==== Proof.RefHeads.lean ====
/- The reference's heads: their normalisation, the angles of the rows, and the rotation. -/
module

public import proofs.«01_k».proof.Proof.RefProduct

@[expose] public section

set_option maxRecDepth 16384

noncomputable section

namespace Cert.ReferenceIdeal.Tail

open Cert.ReferenceIdeal Cert.ReferenceIdeal.Gen Cert.ReferenceIdeal.Read Cert.Spec
open Idealize.ShloMosaic Idealize.ShloMosaic.TcCoe Idealize.ShloMosaic.ValueIdx
open scoped BigOperators

/-- A head's values normalised with the weights `w`. -/
def normT (X : FVec Ideal S1x6144x64x128 .f32) (w : FVec Ideal S128 .bf16) : FVec Ideal S1x6144x64x128 .f32 :=
  mulf (mulf X (broadcastInDim S1x6144x64x128 ![0, 1, 2, 3] bcast_S1x6144x64x1_S1x6144x64x128_0_1_2_3
    (Host.rsqrt (addf (Host.divf (broadcastInDim S1x6144x64x1 ![0, 1, 2] bcast_S1x6144x64_S1x6144x64x1_0_1_2
      (Host.reduceAdd (mulf X X) (constant S_ .f32 0x00000000#32) reducesTo_S1x6144x64x128_S1x6144x64_d3 h_S_))
      (broadcastInDim S1x6144x64x1 ![] bcast_S_S1x6144x64x1 (constant S_ .f32 0x43000000#32)))
      (broadcastInDim S1x6144x64x1 ![] bcast_S_S1x6144x64x1 (constant S_ .f32 0x358637BD#32))))))
    (broadcastInDim S1x6144x64x128 ![0, 1, 2, 3] bcast_S1x1x1x128_S1x6144x64x128_0_1_2_3
      (broadcastInDim S1x1x1x128 ![3] bcast_S128_S1x1x1x128_3 (extf .f32 w bitsLt_bf16_f32)))

theorem normT_apply (X : FVec Ideal S1x6144x64x128 .f32) (w : FVec Ideal S128 .bf16) (s : Fin 6144) (h : Fin 64) (p : Fin 128 → EReal)
    (hX : ∀ l, X (ix4 0 s h l) = p l) (e : Fin 128) : normT X w (ix4 0 s h e) = headNorm p (fun l => w (ix1 l)) e := by
  have hsum : Host.reduceAdd (mulf X X) (constant (F := Ideal) S_ .f32 0x00000000#32) reducesTo_S1x6144x64x128_S1x6144x64_d3 h_S_ (ix3 0 s h)
      = ∑ l, p l * p l := by
    simp only [Host.reduceAdd, Ideal.hostReduceAdd_def]
    rw [Ideal.hostReduceAdd_single reducesTo_S1x6144x64x128_S1x6144x64_d3 (by decide)]
    refine (congrArg₂ (· + ·) (show constant (F := Ideal) S_ .f32 0x00000000#32 (Shape.Idx.first h_S_) = (0 : EReal) from Ideal.ofBits_zero_f32)
      (Finset.sum_congr rfl fun k _ => ?_)).trans (zero_add _)
    have e : ∀ q : S1x6144x64x128.Idx, q = ix4 0 s h k → X q = p k := fun q hq => (congrArg X hq).trans (hX k)
    rw [mulf_apply]
    exact congrArg (fun v : EReal => v * v) (e _ (funext fun a => by match a with | ⟨0, _⟩ => rfl | ⟨1, _⟩ => rfl | ⟨2, _⟩ => rfl | ⟨3, _⟩ => rfl))
  generalize hR : Host.reduceAdd (mulf X X) (constant (F := Ideal) S_ .f32 0x00000000#32) reducesTo_S1x6144x64x128_S1x6144x64_d3 h_S_ = R at hsum
  have hfac : broadcastInDim S1x6144x64x128 ![0, 1, 2, 3] bcast_S1x6144x64x1_S1x6144x64x128_0_1_2_3
    (Host.rsqrt (addf (Host.divf (broadcastInDim S1x6144x64x1 ![0, 1, 2] bcast_S1x6144x64_S1x6144x64x1_0_1_2 R)
      (broadcastInDim S1x6144x64x1 ![] bcast_S_S1x6144x64x1 (constant (F := Ideal) S_ .f32 0x43000000#32)))
      (broadcastInDim S1x6144x64x1 ![] bcast_S_S1x6144x64x1 (constant S_ .f32 0x358637BD#32)))) (ix4 0 s h e)
      = Ideal.rsqrt (Ideal.div (∑ l, p l * p l) c128 + cEps) := by
    refine (broadcastInDim_apply _ bcast_S1x6144x64x1_S1x6144x64x128_0_1_2_3 _ (ix4 0 s h e) (ix4 0 s h 0) (fun a => match a with
      | ⟨0, _⟩ => by show (0 : Nat) = if (1 : Nat) = 1 then 0 else _; rw [if_pos rfl]
      | ⟨1, _⟩ => by show s.val = if (6144 : Nat) = 1 then 0 else _; rw [if_neg (by decide)]; rfl
      | ⟨2, _⟩ => by show h.val = if (64 : Nat) = 1 then 0 else _; rw [if_neg (by decide)]; rfl
      | ⟨3, _⟩ => by show (0 : Nat) = if (1 : Nat) = 1 then 0 else _; rw [if_pos rfl])).trans ?_
    have hb : broadcastInDim S1x6144x64x1 ![0, 1, 2] bcast_S1x6144x64_S1x6144x64x1_0_1_2 R (ix4 0 s h 0) = ∑ l, p l * p l :=
      (broadcastInDim_apply _ bcast_S1x6144x64_S1x6144x64x1_0_1_2 R (ix4 0 s h 0) (ix3 0 s h) (fun a => match a with
        | ⟨0, _⟩ => by show (0 : Nat) = if (1 : Nat) = 1 then 0 else _; rw [if_pos rfl]
        | ⟨1, _⟩ => by show s.val = if (6144 : Nat) = 1 then 0 else _; rw [if_neg (by decide)]; rfl
        | ⟨2, _⟩ => by show h.val = if (64 : Nat) = 1 then 0 else _; rw [if_neg (by decide)]; rfl)).trans hsum
    show Ideal.rsqrt ((addf (F := Ideal) (Host.divf _ _) _ : FVec Ideal S1x6144x64x1 .f32) (ix4 0 s h 0)) = _
    rw [addf_apply, hostDivf_apply, hb, broadcastInDim_scalar_apply, broadcastInDim_scalar_apply]
    rfl
  have hw : broadcastInDim S1x6144x64x128 ![0, 1, 2, 3] bcast_S1x1x1x128_S1x6144x64x128_0_1_2_3
      (broadcastInDim S1x1x1x128 ![3] bcast_S128_S1x1x1x128_3 (extf (F := Ideal) (φ := .bf16) .f32 w bitsLt_bf16_f32)) (ix4 0 s h e) = (w (ix1 e) : EReal) := by
    refine (broadcastInDim_apply _ bcast_S1x1x1x128_S1x6144x64x128_0_1_2_3 _ (ix4 0 s h e) (ix4 0 0 0 e) (fun a => match a with
      | ⟨0, _⟩ => by show (0 : Nat) = if (1 : Nat) = 1 then 0 else _; rw [if_pos rfl]
      | ⟨1, _⟩ => by show (0 : Nat) = if (1 : Nat) = 1 then 0 else _; rw [if_pos rfl]
      | ⟨2, _⟩ => by show (0 : Nat) = if (1 : Nat) = 1 then 0 else _; rw [if_pos rfl]
      | ⟨3, _⟩ => by show e.val = if (128 : Nat) = 1 then 0 else _; rw [if_neg (by decide)]; rfl)).trans ?_
    exact broadcastInDim_apply _ bcast_S128_S1x1x1x128_3 _ (ix4 0 0 0 e) (ix1 e) (fun a => match a with
      | ⟨0, _⟩ => by show e.val = if (128 : Nat) = 1 then 0 else _; rw [if_neg (by decide)]; rfl)
  unfold normT headNorm
  rw [hR, mulf_apply, mulf_apply, hfac, hw, hX]

/-! ## The angles -/

theorem pos_apply (x4 : IVec S1 32) (s : Fin 6144) :
    val_main_v95 (F := Ideal) x4 (ix2 0 s) = (((x4 (ix1 0) + BitVec.ofNat 32 s.val).toInt : ℝ) : EReal) := by
  have h1 : val_main_v93 (F := Ideal) x4 (ix2 0 s) = x4 (ix1 0) := by
    refine (val_main_v93_apply (F := Ideal) x4 _).trans ((val_main_v90_apply (F := Ideal) x4 _).trans ?_)
    exact congrArg x4 (funext fun a => match a with | ⟨0, _⟩ => rfl)
  have h2 : val_main_v92 (F := Ideal) (ix2 0 s) = BitVec.ofNat 32 s.val :=
    (val_main_v92_apply (F := Ideal) _).trans rfl
  exact congrArg (fun b : BitVec 32 => ((b.toInt : ℝ) : EReal)) (congrArg₂ (· + ·) h1 h2)

theorem freq_apply (f : Fin 64) : val_main_v105 (F := Ideal) (ix1 f)
    = Ideal.pow (Ideal.ofBits .f32 0x461C4000#32)
        (Ideal.div (-(Ideal.ofBits .f32 0x00000000#32
          + Ideal.ofBits .f32 0x40000000#32 * (((BitVec.ofNat 32 f.val).toInt : ℝ) : EReal))) c128) := rfl

theorem angle_apply (x4 : IVec S1 32) (s : Fin 6144) (f : Fin 64) :
    val_main_v110 (F := Ideal) x4 (ix3 0 s f) = angle (x4 (ix1 0)) s f := by
  have h1 : val_main_v108 (F := Ideal) x4 (ix3 0 s f) = val_main_v95 (F := Ideal) x4 (ix2 0 s) :=
    (val_main_v108_apply (F := Ideal) x4 _).trans ((val_main_v106_apply (F := Ideal) x4 _).trans
      (congrArg (val_main_v95 (F := Ideal) x4) (funext fun a => match a with | ⟨0, _⟩ => rfl | ⟨1, _⟩ => rfl)))
  have h2 : val_main_v109 (F := Ideal) (ix3 0 s f) = val_main_v105 (F := Ideal) (ix1 f) :=
    (val_main_v109_apply (F := Ideal) _).trans ((val_main_v107_apply (F := Ideal) _).trans
      (congrArg (val_main_v105 (F := Ideal)) (funext fun a => match a with | ⟨0, _⟩ => rfl)))
  exact congrArg₂ (fun a b : EReal => a * b) (h1.trans (pos_apply x4 s)) (h2.trans (freq_apply f))

theorem cos_apply (x4 : IVec S1 32) (s : Fin 6144) (f : Fin 64) :
    val_main_v112 (F := Ideal) x4 (ix4 0 s 0 f) = Ideal.cos (angle (x4 (ix1 0)) s f) := by
  refine (val_main_v112_apply (F := Ideal) x4 _).trans ?_
  refine (congrArg (val_main_v111 (F := Ideal) x4) (funext fun a => match a with | ⟨0, _⟩ => rfl | ⟨1, _⟩ => rfl | ⟨2, _⟩ => rfl : _ = ix3 0 s f)).trans ?_
  exact congrArg Ideal.cos (angle_apply x4 s f)

theorem sin_apply (x4 : IVec S1 32) (s : Fin 6144) (f : Fin 64) :
    val_main_v114 (F := Ideal) x4 (ix4 0 s 0 f) = Ideal.sin (angle (x4 (ix1 0)) s f) := by
  refine (val_main_v114_apply (F := Ideal) x4 _).trans ?_
  refine (congrArg (val_main_v113 (F := Ideal) x4) (funext fun a => match a with | ⟨0, _⟩ => rfl | ⟨1, _⟩ => rfl | ⟨2, _⟩ => rfl : _ = ix3 0 s f)).trans ?_
  exact congrArg Ideal.sin (angle_apply x4 s f)

/-! ## The rotation -/

/-- The first half of every head. -/
def firstT (Y : FVec Ideal S1x6144x64x128 .f32) : FVec Ideal S1x6144x64x64 .f32 :=
  extractStridedSlice S1x6144x64x64 ![0, 0, 0, 0] Y slices_S1x6144x64x128_S1x6144x64x64_0_0_0_0
/-- The second half of every head. -/
def secondT (Y : FVec Ideal S1x6144x64x128 .f32) : FVec Ideal S1x6144x64x64 .f32 :=
  extractStridedSlice S1x6144x64x64 ![0, 0, 0, 64] Y slices_S1x6144x64x128_S1x6144x64x64_0_0_0_64
/-- A table of the rows repeated for every head. -/
def everyT (C : FVec Ideal S1x6144x1x64 .f32) : FVec Ideal S1x6144x64x64 .f32 :=
  broadcastInDim S1x6144x64x64 ![0, 1, 2, 3] bcast_S1x6144x1x64_S1x6144x64x64_0_1_2_3 C

/-- The heads turned by the tables of cosines and sines. -/
def rotT (Y : FVec Ideal S1x6144x64x128 .f32) (C N : FVec Ideal S1x6144x1x64 .f32) : FVec Ideal S1x6144x64x128 .f32 :=
  concatenate S1x6144x64x128 3
    [⟨S1x6144x64x64, subf (mulf (firstT Y) (everyT C)) (mulf (secondT Y) (everyT N))⟩,
     ⟨S1x6144x64x64, addf (mulf (secondT Y) (everyT C)) (mulf (firstT Y) (everyT N))⟩]
    concatenates_S1x6144x64x64_S1x6144x64x64_S1x6144x64x128_d3

theorem firstT_apply (Y : FVec Ideal S1x6144x64x128 .f32) (s : Fin 6144) (h f : Fin 64) :
    firstT Y (ix4 0 s h f) = Y (ix4 0 s h ⟨f.val, by omega⟩) :=
  extractStridedSlice_apply _ _ _ (ix4 0 s h f) (ix4 0 s h ⟨f.val, by omega⟩) (fun a => match a with
    | ⟨0, _⟩ => rfl
    | ⟨1, _⟩ => by show s.val = 0 + s.val; omega
    | ⟨2, _⟩ => by show h.val = 0 + h.val; omega
    | ⟨3, _⟩ => by show f.val = 0 + f.val; omega)

theorem secondT_apply (Y : FVec Ideal S1x6144x64x128 .f32) (s : Fin 6144) (h f : Fin 64) :
    secondT Y (ix4 0 s h f) = Y (ix4 0 s h ⟨64 + f.val, by omega⟩) :=
  extractStridedSlice_apply _ _ _ (ix4 0 s h f) (ix4 0 s h ⟨64 + f.val, by omega⟩) (fun a => match a with
    | ⟨0, _⟩ => rfl
    | ⟨1, _⟩ => by show s.val = 0 + s.val; omega
    | ⟨2, _⟩ => by show h.val = 0 + h.val; omega
    | ⟨3, _⟩ => by show 64 + f.val = 64 + f.val; rfl)

theorem everyT_apply (C : FVec Ideal S1x6144x1x64 .f32) (s : Fin 6144) (h f : Fin 64) : everyT C (ix4 0 s h f) = C (ix4 0 s 0 f) :=
  broadcastInDim_apply _ bcast_S1x6144x1x64_S1x6144x64x64_0_1_2_3 C (ix4 0 s h f) (ix4 0 s 0 f) (fun a => match a with
    | ⟨0, _⟩ => by show (0 : Nat) = if (1 : Nat) = 1 then 0 else _; rw [if_pos rfl]
    | ⟨1, _⟩ => by show s.val = if (6144 : Nat) = 1 then 0 else _; rw [if_neg (by decide)]; rfl
    | ⟨2, _⟩ => by show (0 : Nat) = if (1 : Nat) = 1 then 0 else _; rw [if_pos rfl]
    | ⟨3, _⟩ => by show f.val = if (64 : Nat) = 1 then 0 else _; rw [if_neg (by decide)]; rfl)

theorem rotT_apply (Y : FVec Ideal S1x6144x64x128 .f32) (C N : FVec Ideal S1x6144x1x64 .f32) (off : BitVec 32) (s : Fin 6144) (h : Fin 64)
    (y : Fin 128 → EReal) (hY : ∀ e, Y (ix4 0 s h e) = y e) (hC : ∀ f, C (ix4 0 s 0 f) = Ideal.cos (angle off s f))
    (hN : ∀ f, N (ix4 0 s 0 f) = Ideal.sin (angle off s f)) (e : Fin 128) :
    rotT Y C N (ix4 0 s h e) = y e * cs off s e + y (swap e) * sn off s e := by
  have he := e.isLt
  unfold cs sn
  by_cases hl : e.val < 64
  · rw [if_pos hl]
    refine (concatenate_pair_apply_left 3 _ _ concatenates_S1x6144x64x64_S1x6144x64x64_S1x6144x64x128_d3 (ix4 0 s h e) rfl (ix4 0 s h (lo e))
      (fun b => match b with
        | ⟨0, _⟩ => rfl
        | ⟨1, _⟩ => rfl
        | ⟨2, _⟩ => rfl
        | ⟨3, _⟩ => by show e.val % 64 = e.val; omega)).trans ?_
    rw [subf_apply, mulf_apply, mulf_apply, firstT_apply, secondT_apply, everyT_apply, everyT_apply, hC, hN, hY, hY]
    have h1 : (⟨(lo e).val, by omega⟩ : Fin 128) = e := Fin.ext (show e.val % 64 = e.val by omega)
    have h2 : (⟨64 + (lo e).val, by omega⟩ : Fin 128) = swap e := Fin.ext (show 64 + e.val % 64 = (e.val + 64) % 128 by omega)
    rw [h1, h2, mul_neg, ← sub_eq_add_neg]
  · rw [if_neg hl]
    refine (concatenate_pair_apply_right 3 _ _ concatenates_S1x6144x64x64_S1x6144x64x64_S1x6144x64x128_d3 (ix4 0 s h e) rfl rfl (ix4 0 s h (lo e))
      (fun b => match b with
        | ⟨0, _⟩ => fun _ => rfl
        | ⟨1, _⟩ => fun _ => rfl
        | ⟨2, _⟩ => fun _ => rfl
        | ⟨3, _⟩ => fun hn => absurd rfl hn) (by show e.val % 64 + 64 = e.val; omega)).trans ?_
    rw [addf_apply, mulf_apply, mulf_apply, firstT_apply, secondT_apply, everyT_apply, everyT_apply, hC, hN, hY, hY]
    have h1 : (⟨(lo e).val, by omega⟩ : Fin 128) = swap e := Fin.ext (show e.val % 64 = (e.val + 64) % 128 by omega)
    have h2 : (⟨64 + (lo e).val, by omega⟩ : Fin 128) = e := Fin.ext (show 64 + e.val % 64 = e.val by omega)
    rw [h1, h2]

end Cert.ReferenceIdeal.Tail

end
-- ==== Proof.RefPrefix.lean ====
/- The reference's lines before its casts: the scales and the scaled activations, as terms and element by element. -/
module

public import proofs.«01_k».proof.Proof.Gen.ReferenceIdeal.Read
public import proofs.«01_k».proof.Proof.ResultSpec
public import Idealize.ShloMosaic.Lib.StableHlo.RunRead
public import Idealize.ShloMosaic.Lib.KernelVsHost
public import Idealize.ShloMosaic.Lib.IdealHost

@[expose] public section

set_option maxRecDepth 16384

noncomputable section

namespace Cert.ReferenceIdeal.Prefix

open Cert.ReferenceIdeal Cert.ReferenceIdeal.Gen Cert.Spec
open Idealize.ShloMosaic Idealize.ShloMosaic.TcCoe Idealize.ShloMosaic.ValueIdx Idealize.SL.Sem Idealize.ShloMosaic.StableHlo
open scoped BigOperators

variable (x0 : FVec Ideal S1x6144x8192 .bf16) (x1 : FVec Ideal S8192 .bf16)

/-- The rows' factors. -/
def factorT : FVec Ideal S1x6144x1 .f32 :=
  Host.rsqrt (addf (Host.divf (broadcastInDim S1x6144x1 ![0, 1] bcast_S1x6144_S1x6144x1_0_1
    (Host.reduceAdd (mulf (extf .f32 x0 bitsLt_bf16_f32) (extf .f32 x0 bitsLt_bf16_f32)) (constant S_ .f32 0x00000000#32)
      reducesTo_S1x6144x8192_S1x6144_d2 h_S_)) (broadcastInDim S1x6144x1 ![] bcast_S_S1x6144x1 (constant S_ .f32 0x46000000#32)))
    (broadcastInDim S1x6144x1 ![] bcast_S_S1x6144x1 (constant S_ .f32 0x358637BD#32)))

/-- The normalised activations. -/
def hT : FVec Ideal S1x6144x8192 .f32 :=
  mulf (mulf (extf .f32 x0 bitsLt_bf16_f32) (broadcastInDim S1x6144x8192 ![0, 1, 2] bcast_S1x6144x1_S1x6144x8192_0_1_2 (factorT x0)))
    (broadcastInDim S1x6144x8192 ![0, 1, 2] bcast_S1x1x8192_S1x6144x8192_0_1_2
      (broadcastInDim S1x1x8192 ![2] bcast_S8192_S1x1x8192_2 (extf .f32 x1 bitsLt_bf16_f32)))

/-- The same cut into groups. -/
def groupsT : FVec Ideal S1x6144x64x128 .f32 := shapeCast S1x6144x64x128 (hT x0 x1) shapeCasts_S1x6144x8192_S1x6144x64x128

/-- The groups' quotients. -/
def ratioT : FVec Ideal S1x6144x64 .f32 :=
  mulf (Host.reduce FloatOps.maximumf (Host.absf (groupsT x0 x1)) (constant S_ .f32 0xFF800000#32)
    reducesTo_S1x6144x64x128_S1x6144x64_d3 h_S_) (broadcastInDim S1x6144x64 ![] bcast_S_S1x6144x64 (constant S_ .f32 0x3B124925#32))

/-- The powers of two. -/
def powersT : FVec Ideal S253 .f32 :=
  Host.powf (broadcastInDim S253 ![] bcast_S_S253 (constant S_ .f32 0x40000000#32))
    (sitofp .f32 (addi (broadcastInDim S253 ![] bcast_S_S253 (constantI S_ 32 4294967171#32)) (iotaInDim S253 32 0)))

/-- The powers above each quotient, infinity for the others. -/
def candT : FVec Ideal S1x6144x64x253 .f32 :=
  select (cmpf .olt
      (broadcastInDim S1x6144x64x253 ![0, 1, 2, 3] bcast_S1x6144x64x1_S1x6144x64x253_0_1_2_3
        (broadcastInDim S1x6144x64x1 ![0, 1, 2] bcast_S1x6144x64_S1x6144x64x1_0_1_2 (ratioT x0 x1)))
      (broadcastInDim S1x6144x64x253 ![0, 1, 2, 3] bcast_S1x1x1x253_S1x6144x64x253_0_1_2_3
        (broadcastInDim S1x1x1x253 ![3] bcast_S253_S1x1x1x253_3 powersT)))
    (broadcastInDim S1x6144x64x253 ![3] bcast_S253_S1x6144x64x253_3 powersT)
    (broadcastInDim S1x6144x64x253 ![] bcast_S_S1x6144x64x253 (constant S_ .f32 0x7F800000#32))

/-- The scales. -/
def scaleT : FVec Ideal S1x6144x64 .f32 :=
  select (cmpf .olt (ratioT x0 x1) (broadcastInDim S1x6144x64 ![] bcast_S_S1x6144x64 (constant S_ .f32 0x00800000#32)))
    (broadcastInDim S1x6144x64 ![] bcast_S_S1x6144x64 (constant S_ .f32 0x3F800000#32))
    (Host.reduce FloatOps.minimumf (candT x0 x1) (constant S_ .f32 0x7F800000#32) reducesTo_S1x6144x64x253_S1x6144x64_d3 h_S_)

/-- The activations over their groups' scales. -/
def scaledT : FVec Ideal S1x6144x8192 .f32 :=
  shapeCast S1x6144x8192 (mulf (groupsT x0 x1) (broadcastInDim S1x6144x64x128 ![0, 1, 2, 3] bcast_S1x6144x64x1_S1x6144x64x128_0_1_2_3
    (broadcastInDim S1x6144x64x1 ![0, 1, 2] bcast_S1x6144x64_S1x6144x64x1_0_1_2
      (Host.divf (broadcastInDim S1x6144x64 ![] bcast_S_S1x6144x64 (constant S_ .f32 0x3F800000#32)) (scaleT x0 x1)))))
    shapeCasts_S1x6144x64x128_S1x6144x8192

variable (m : (ℓ : Loc nD τ sig) → Buf (Elt Ideal) ℓ) (c : Dev nD)

set_option maxHeartbeats 2000000 in
theorem read_v35 : Value.exitV m c (Proc.devRef .tc main_v35)
    = scaleT (m ((c.tc : Thread nD τ).loc main_arg0)) (m ((c.tc : Thread nD τ).loc main_arg1)) :=
  (Value.exit_main_v35 m c).trans rfl

set_option maxHeartbeats 2000000 in
theorem read_v41 : Gen.V m c main_v41
    = scaledT (m ((c.tc : Thread nD τ).loc main_arg0)) (m ((c.tc : Thread nD τ).loc main_arg1)) := by
  show Gen.V0 m c (Proc.devRef .tc main_v41) = _
  simp only [Gen.V0, Gen.hostOps0, Gen.hostOps0_1, Gen.hostOps0_2, Gen.hostOps0_3, Gen.hostOps0_4, TRef.ternary, TRef.unary, TRef.toBuf, TRef.ofBuf, cast_eq, List.flatten_cons, List.flatten_nil, List.append_nil, List.cons_append, List.nil_append]
  after_results_simp <;> rfl

end Cert.ReferenceIdeal.Prefix

end
-- ==== Proof.RefPrefixValue.lean ====
/- The reference's scales and scaled activations are the mathematics' own. -/
module

public import proofs.«01_k».proof.Proof.RefPrefix

@[expose] public section

set_option maxRecDepth 16384

noncomputable section

namespace Cert.ReferenceIdeal.Prefix

open Cert.ReferenceIdeal Cert.ReferenceIdeal.Gen Cert.Spec
open Idealize.ShloMosaic Idealize.ShloMosaic.TcCoe Idealize.ShloMosaic.ValueIdx Idealize.SL.Sem Idealize.ShloMosaic.StableHlo
open scoped BigOperators

variable (x0 : FVec Ideal S1x6144x8192 .bf16) (x1 : FVec Ideal S8192 .bf16)

/-- Dividing by 8192 is multiplying by 1/8192. -/
theorem div_8192 (v : EReal) : Ideal.div v (Ideal.ofBits .f32 0x46000000#32) = v * cMean := by
  have h : Ideal.ofBits .f32 0x46000000#32 = ((8192 : ℝ) : EReal) := by
    simp [Ideal.ofBits, Ideal.ieee, -EReal.coe_mul]; norm_num
  rw [h, cMean_eq]
  show (if ((8192 : ℝ) : EReal) = 0 then _ else v * (((8192 : ℝ) : EReal))⁻¹) = _
  rw [if_neg (by norm_cast), ← EReal.coe_inv, one_div]

theorem factor_apply (s : Fin 6144) : factorT x0 (ix3 0 s 0) = rowFactor (xRow x0 s) := by
  have h1 : Host.reduceAdd (mulf (extf .f32 x0 bitsLt_bf16_f32) (extf .f32 x0 bitsLt_bf16_f32)) (constant (F := Ideal) S_ .f32 0x00000000#32)
      reducesTo_S1x6144x8192_S1x6144_d2 h_S_ (ix2 0 s) = ∑ d, xRow x0 s d * xRow x0 s d := by
    simp only [Host.reduceAdd, Ideal.hostReduceAdd_def]
    rw [Ideal.hostReduceAdd_single reducesTo_S1x6144x8192_S1x6144_d2 (by decide)]
    refine (congrArg₂ (· + ·) (show constant (F := Ideal) S_ .f32 0x00000000#32 (Shape.Idx.first h_S_) = (0 : EReal) from Ideal.ofBits_zero_f32)
      (Finset.sum_congr rfl fun k _ => ?_)).trans (zero_add _)
    rw [mulf_apply]
    have e : ∀ q : S1x6144x8192.Idx, q = ix3 0 s k → extf (F := Ideal) (φ := .bf16) .f32 x0 bitsLt_bf16_f32 q = xRow x0 s k := by
      intro q hq; subst hq; rfl
    exact congrArg (fun v : EReal => v * v) (e _ (funext fun a => by match a with | ⟨0, _⟩ => rfl | ⟨1, _⟩ => rfl | ⟨2, _⟩ => rfl))
  have h2 : broadcastInDim S1x6144x1 ![0, 1] bcast_S1x6144_S1x6144x1_0_1
    (Host.reduceAdd (mulf (extf .f32 x0 bitsLt_bf16_f32) (extf .f32 x0 bitsLt_bf16_f32)) (constant (F := Ideal) S_ .f32 0x00000000#32)
      reducesTo_S1x6144x8192_S1x6144_d2 h_S_) (ix3 0 s 0) = ∑ d, xRow x0 s d * xRow x0 s d :=
    (broadcastInDim_apply _ bcast_S1x6144_S1x6144x1_0_1 _ (ix3 0 s 0) (ix2 0 s) (fun a => match a with
      | ⟨0, _⟩ => by show (0 : Nat) = if (1 : Nat) = 1 then 0 else _; rw [if_pos rfl]
      | ⟨1, _⟩ => by show s.val = if (6144 : Nat) = 1 then 0 else _; rw [if_neg (by decide)]; rfl)).trans h1
  unfold rowFactor
  show Ideal.rsqrt ((addf (F := Ideal) (Host.divf _ _) _ : FVec Ideal S1x6144x1 .f32) (ix3 0 s 0)) = _
  rw [addf_apply, hostDivf_apply, h2, broadcastInDim_scalar_apply, broadcastInDim_scalar_apply]
  exact congrArg (fun v : EReal => Ideal.rsqrt (v + cEps)) (div_8192 _)

theorem h_apply (s : Fin 6144) (d : Fin 8192) : hT x0 x1 (ix3 0 s d) = hval (xRow x0 s) (wRow x1) d := by
  have h1 : broadcastInDim S1x6144x8192 ![0, 1, 2] bcast_S1x6144x1_S1x6144x8192_0_1_2 (factorT x0) (ix3 0 s d) = rowFactor (xRow x0 s) :=
    (broadcastInDim_apply _ bcast_S1x6144x1_S1x6144x8192_0_1_2 _ (ix3 0 s d) (ix3 0 s 0) (fun a => match a with
      | ⟨0, _⟩ => by show (0 : Nat) = if (1 : Nat) = 1 then 0 else _; rw [if_pos rfl]
      | ⟨1, _⟩ => by show s.val = if (6144 : Nat) = 1 then 0 else _; rw [if_neg (by decide)]; rfl
      | ⟨2, _⟩ => by show (0 : Nat) = if (1 : Nat) = 1 then 0 else _; rw [if_pos rfl])).trans (factor_apply x0 s)
  have h2 : broadcastInDim S1x6144x8192 ![0, 1, 2] bcast_S1x1x8192_S1x6144x8192_0_1_2
      (broadcastInDim S1x1x8192 ![2] bcast_S8192_S1x1x8192_2 (extf (F := Ideal) (φ := .bf16) .f32 x1 bitsLt_bf16_f32)) (ix3 0 s d) = wRow x1 d := by
    refine (broadcastInDim_apply _ bcast_S1x1x8192_S1x6144x8192_0_1_2 _ (ix3 0 s d) (ix3 0 0 d) (fun a => match a with
      | ⟨0, _⟩ => by show (0 : Nat) = if (1 : Nat) = 1 then 0 else _; rw [if_pos rfl]
      | ⟨1, _⟩ => by show (0 : Nat) = if (1 : Nat) = 1 then 0 else _; rw [if_pos rfl]
      | ⟨2, _⟩ => by show d.val = if (8192 : Nat) = 1 then 0 else _; rw [if_neg (by decide)]; rfl)).trans ?_
    exact broadcastInDim_apply _ bcast_S8192_S1x1x8192_2 _ (ix3 0 0 d) (ix1 d) (fun a => match a with
      | ⟨0, _⟩ => by show d.val = if (8192 : Nat) = 1 then 0 else _; rw [if_neg (by decide)]; rfl)
  exact congrArg₂ (fun a b : EReal => xRow x0 s d * a * b) h1 h2

theorem groups_apply (s : Fin 6144) (g : Fin 64) (l : Fin 128) :
    groupsT x0 x1 (ix4 0 s g l) = hval (xRow x0 s) (wRow x1) (col g l) :=
  (shapeCast_apply _ shapeCasts_S1x6144x8192_S1x6144x64x128 (ix4 0 s g l) (ix3 0 s (col g l)) (by
    rw [Shape.rowMajor_val_three, Shape.rowMajor_val_four]
    show (0 * 6144 + s.val) * 8192 + (128 * g.val + l.val) = ((0 * 6144 + s.val) * 64 + g.val) * 128 + l.val
    omega)).trans (h_apply x0 x1 s _)

theorem ratio_apply (s : Fin 6144) (g : Fin 64) : ratioT x0 x1 (ix3 0 s g) = quot (xRow x0 s) (wRow x1) g := by
  unfold ratioT quot
  rw [mulf_apply, broadcastInDim_scalar_apply]
  refine congrArg₂ (fun a b : EReal => a * b) ?_ (rfl : Ideal.ofBits .f32 0x3B124925#32 = c448)
  refine (Host.reduce_eq_fold_single (FloatOps.maximumf (F := Ideal) (φ := .f32)) (Host.absf (groupsT x0 x1)) (constant S_ .f32 0xFF800000#32)
    reducesTo_S1x6144x64x128_S1x6144x64_d3 (by decide) h_S_ (ix3 0 s g)).trans ?_
  have e : constant (F := Ideal) S_ .f32 0xFF800000#32 (Shape.Idx.first h_S_) = (⊥ : EReal) := by
    show Ideal.ofBits .f32 0xFF800000#32 = ⊥
    simp [Ideal.ofBits, Ideal.ieee]
  rw [e]
  unfold amax
  refine Finset.fold_congr fun l _ => ?_
  have hi : ∀ q : S1x6144x64x128.Idx, q = ix4 0 s g l → mag (groupsT x0 x1 q) = mag (hval (xRow x0 s) (wRow x1) (col g l)) := by
    intro q hq; subst hq; exact congrArg mag (groups_apply x0 x1 s g l)
  exact hi _ (funext fun a => by match a with | ⟨0, _⟩ => rfl | ⟨1, _⟩ => rfl | ⟨2, _⟩ => rfl | ⟨3, _⟩ => rfl)

theorem power_words : ∀ k : Fin 253, (4294967171#32 + BitVec.ofNat 32 k.val).toInt = (k.val : ℤ) - 125 := by
  decide +kernel

theorem powers_apply (k : Fin 253) : powersT (ix1 k) = p2 ((k.val : ℤ) - 125) := by
  show Ideal.pow (Ideal.ofBits .f32 0x40000000#32) ((((4294967171#32 + BitVec.ofNat 32 k.val).toInt : ℝ)) : EReal) = _
  have h2 : Ideal.ofBits .f32 0x40000000#32 = ((2 : ℝ) : EReal) := by
    simp [Ideal.ofBits, Ideal.ieee, -EReal.coe_mul]; norm_num
  rw [h2, power_words]
  show ((Real.rpow 2 (((k.val : ℤ) - 125 : ℤ) : ℝ) : ℝ) : EReal) = _
  unfold p2
  exact congrArg _ (Real.rpow_intCast 2 _)

/-- A choice by an ordered comparison is the choice by the order. -/
theorem pick (a b u v : EReal) :
    ((if (Scalar.cmpf (F := Ideal) (φ := .f32) .olt a b) = 1#1 then u else v) : EReal) = if a < b then u else v := by
  show (if BitVec.ofBool (decide (a < b)) = 1#1 then u else v) = _
  by_cases h : a < b <;> simp [h]

theorem cand_apply (s : Fin 6144) (g : Fin 64) (k : Fin 253) :
    candT x0 x1 (ix4 0 s g k) = if quot (xRow x0 s) (wRow x1) g < p2 ((k.val : ℤ) - 125) then p2 ((k.val : ℤ) - 125) else ⊤ := by
  have h1 : broadcastInDim S1x6144x64x253 ![0, 1, 2, 3] bcast_S1x6144x64x1_S1x6144x64x253_0_1_2_3
        (broadcastInDim S1x6144x64x1 ![0, 1, 2] bcast_S1x6144x64_S1x6144x64x1_0_1_2 (ratioT x0 x1)) (ix4 0 s g k)
      = quot (xRow x0 s) (wRow x1) g := by
    refine (broadcastInDim_apply _ bcast_S1x6144x64x1_S1x6144x64x253_0_1_2_3 _ (ix4 0 s g k) (ix4 0 s g 0) (fun a => match a with
      | ⟨0, _⟩ => by show (0 : Nat) = if (1 : Nat) = 1 then 0 else _; rw [if_pos rfl]
      | ⟨1, _⟩ => by show s.val = if (6144 : Nat) = 1 then 0 else _; rw [if_neg (by decide)]; rfl
      | ⟨2, _⟩ => by show g.val = if (64 : Nat) = 1 then 0 else _; rw [if_neg (by decide)]; rfl
      | ⟨3, _⟩ => by show (0 : Nat) = if (1 : Nat) = 1 then 0 else _; rw [if_pos rfl])).trans ?_
    exact (broadcastInDim_apply _ bcast_S1x6144x64_S1x6144x64x1_0_1_2 _ (ix4 0 s g 0) (ix3 0 s g) (fun a => match a with
      | ⟨0, _⟩ => by show (0 : Nat) = if (1 : Nat) = 1 then 0 else _; rw [if_pos rfl]
      | ⟨1, _⟩ => by show s.val = if (6144 : Nat) = 1 then 0 else _; rw [if_neg (by decide)]; rfl
      | ⟨2, _⟩ => by show g.val = if (64 : Nat) = 1 then 0 else _; rw [if_neg (by decide)]; rfl)).trans (ratio_apply x0 x1 s g)
  have h2 : broadcastInDim S1x6144x64x253 ![0, 1, 2, 3] bcast_S1x1x1x253_S1x6144x64x253_0_1_2_3
        (broadcastInDim S1x1x1x253 ![3] bcast_S253_S1x1x1x253_3 powersT) (ix4 0 s g k) = p2 ((k.val : ℤ) - 125) := by
    refine (broadcastInDim_apply _ bcast_S1x1x1x253_S1x6144x64x253_0_1_2_3 _ (ix4 0 s g k) (ix4 0 0 0 k) (fun a => match a with
      | ⟨0, _⟩ => by show (0 : Nat) = if (1 : Nat) = 1 then 0 else _; rw [if_pos rfl]
      | ⟨1, _⟩ => by show (0 : Nat) = if (1 : Nat) = 1 then 0 else _; rw [if_pos rfl]
      | ⟨2, _⟩ => by show (0 : Nat) = if (1 : Nat) = 1 then 0 else _; rw [if_pos rfl]
      | ⟨3, _⟩ => by show k.val = if (253 : Nat) = 1 then 0 else _; rw [if_neg (by decide)]; rfl)).trans ?_
    exact (broadcastInDim_apply _ bcast_S253_S1x1x1x253_3 _ (ix4 0 0 0 k) (ix1 k) (fun a => match a with
      | ⟨0, _⟩ => by show k.val = if (253 : Nat) = 1 then 0 else _; rw [if_neg (by decide)]; rfl)).trans (powers_apply k)
  have h3 : broadcastInDim S1x6144x64x253 ![3] bcast_S253_S1x6144x64x253_3 powersT (ix4 0 s g k) = p2 ((k.val : ℤ) - 125) :=
    (broadcastInDim_apply _ bcast_S253_S1x6144x64x253_3 _ (ix4 0 s g k) (ix1 k) (fun a => match a with
      | ⟨0, _⟩ => by show k.val = if (253 : Nat) = 1 then 0 else _; rw [if_neg (by decide)]; rfl)).trans (powers_apply k)
  have h4 : broadcastInDim S1x6144x64x253 ![] bcast_S_S1x6144x64x253 (constant (F := Ideal) S_ .f32 0x7F800000#32) (ix4 0 s g k) = (⊤ : EReal) := by
    rw [broadcastInDim_scalar_apply]
    show Ideal.ofBits .f32 0x7F800000#32 = ⊤
    simp [Ideal.ofBits, Ideal.ieee]
  unfold candT
  rw [select_apply, cmpf_apply, h1, h2, h3, h4]
  generalize quot (xRow x0 s) (wRow x1) g = q
  generalize p2 ((k.val : ℤ) - 125) = p
  exact pick q p p ⊤

/-- A least value folded from infinity is the infimum. -/
theorem fold_min {n : Nat} (f : Fin n → EReal) :
    Finset.univ.fold (FloatOps.minimumf (F := Ideal) (φ := .f32)) (⊤ : EReal) f = Finset.univ.inf f := rfl

theorem least_apply (f : Fin 253 → EReal) (T : FVec Ideal S1x6144x64x253 .f32) (s : Fin 6144) (g : Fin 64)
    (hi : ∀ (k : Fin 253) (q : S1x6144x64x253.Idx), q = ix4 0 s g k → T q = f k) :
    Host.reduce FloatOps.minimumf T (constant (F := Ideal) S_ .f32 0x7F800000#32) reducesTo_S1x6144x64x253_S1x6144x64_d3 h_S_ (ix3 0 s g)
      = Finset.univ.inf f := by
  refine (Host.reduce_eq_fold_single (FloatOps.minimumf (F := Ideal) (φ := .f32)) T (constant S_ .f32 0x7F800000#32)
    reducesTo_S1x6144x64x253_S1x6144x64_d3 (by decide) h_S_ (ix3 0 s g)).trans ?_
  have e : constant (F := Ideal) S_ .f32 0x7F800000#32 (Shape.Idx.first h_S_) = (⊤ : EReal) := by
    show Ideal.ofBits .f32 0x7F800000#32 = ⊤
    simp [Ideal.ofBits, Ideal.ieee]
  rw [e]
  refine (fold_min _).trans ?_
  exact Finset.inf_congr rfl fun k _ =>
    hi k _ (funext fun a => by match a with | ⟨0, _⟩ => rfl | ⟨1, _⟩ => rfl | ⟨2, _⟩ => rfl | ⟨3, _⟩ => rfl)

theorem scale_apply (s : Fin 6144) (g : Fin 64) : scaleT x0 x1 (ix3 0 s g) = xScale (xRow x0 s) (wRow x1) g := by
  have hmin := least_apply (fun k : Fin 253 => if quot (xRow x0 s) (wRow x1) g < p2 ((k.val : ℤ) - 125) then p2 ((k.val : ℤ) - 125) else ⊤)
    (candT x0 x1) s g (fun k q hq => (congrArg (candT x0 x1) hq).trans (cand_apply x0 x1 s g k))
  have htiny : broadcastInDim S1x6144x64 ![] bcast_S_S1x6144x64 (constant (F := Ideal) S_ .f32 0x00800000#32) (ix3 0 s g) = p2 (-126) := by
    rw [broadcastInDim_scalar_apply]
    show Ideal.ofBits .f32 0x00800000#32 = p2 (-126)
    unfold p2
    simp [Ideal.ofBits, Ideal.ieee, -EReal.coe_mul]
    norm_num
  have hone : broadcastInDim S1x6144x64 ![] bcast_S_S1x6144x64 (constant (F := Ideal) S_ .f32 0x3F800000#32) (ix3 0 s g) = (1 : EReal) :=
    (broadcastInDim_scalar_apply _ _ _).trans Ideal.ofBits_one_f32
  unfold scaleT xScale scale
  rw [select_apply, cmpf_apply, htiny, hone, hmin, ratio_apply]
  exact pick (quot (xRow x0 s) (wRow x1) g) _ _ _

theorem scaled_apply (s : Fin 6144) (d : Fin 8192) :
    scaledT x0 x1 (ix3 0 s d) = hval (xRow x0 s) (wRow x1) d * Ideal.div 1 (xScale (xRow x0 s) (wRow x1) (grp d)) := by
  have hd : d.val < 8192 := d.isLt
  have hc : col (grp d) ⟨d.val % 128, Nat.mod_lt _ (by decide)⟩ = d :=
    Fin.ext (show 128 * (d.val / 128) + d.val % 128 = d.val by omega)
  have h1 : broadcastInDim S1x6144x64x128 ![0, 1, 2, 3] bcast_S1x6144x64x1_S1x6144x64x128_0_1_2_3
    (broadcastInDim S1x6144x64x1 ![0, 1, 2] bcast_S1x6144x64_S1x6144x64x1_0_1_2
      (Host.divf (broadcastInDim S1x6144x64 ![] bcast_S_S1x6144x64 (constant S_ .f32 0x3F800000#32)) (scaleT x0 x1)))
      (ix4 0 s (grp d) ⟨d.val % 128, Nat.mod_lt _ (by decide)⟩) = Ideal.div 1 (xScale (xRow x0 s) (wRow x1) (grp d)) := by
    refine (broadcastInDim_apply _ bcast_S1x6144x64x1_S1x6144x64x128_0_1_2_3 _ _ (ix4 0 s (grp d) 0) (fun a => match a with
      | ⟨0, _⟩ => by show (0 : Nat) = if (1 : Nat) = 1 then 0 else _; rw [if_pos rfl]
      | ⟨1, _⟩ => by show s.val = if (6144 : Nat) = 1 then 0 else _; rw [if_neg (by decide)]; rfl
      | ⟨2, _⟩ => by show (grp d).val = if (64 : Nat) = 1 then 0 else _; rw [if_neg (by decide)]; rfl
      | ⟨3, _⟩ => by show (0 : Nat) = if (1 : Nat) = 1 then 0 else _; rw [if_pos rfl])).trans ?_
    refine (broadcastInDim_apply _ bcast_S1x6144x64_S1x6144x64x1_0_1_2 _ (ix4 0 s (grp d) 0) (ix3 0 s (grp d)) (fun a => match a with
      | ⟨0, _⟩ => by show (0 : Nat) = if (1 : Nat) = 1 then 0 else _; rw [if_pos rfl]
      | ⟨1, _⟩ => by show s.val = if (6144 : Nat) = 1 then 0 else _; rw [if_neg (by decide)]; rfl
      | ⟨2, _⟩ => by show (grp d).val = if (64 : Nat) = 1 then 0 else _; rw [if_neg (by decide)]; rfl)).trans ?_
    rw [hostDivf_apply, broadcastInDim_scalar_apply, scale_apply]
    exact congrArg (fun v : EReal => Ideal.div v (xScale (xRow x0 s) (wRow x1) (grp d))) Ideal.ofBits_one_f32
  refine (shapeCast_apply _ shapeCasts_S1x6144x64x128_S1x6144x8192 (ix3 0 s d) (ix4 0 s (grp d) ⟨d.val % 128, Nat.mod_lt _ (by decide)⟩) (by
    rw [Shape.rowMajor_val_three, Shape.rowMajor_val_four]
    show ((0 * 6144 + s.val) * 64 + d.val / 128) * 128 + d.val % 128 = (0 * 6144 + s.val) * 8192 + d.val
    omega)).trans ?_
  rw [mulf_apply, h1, groups_apply, hc]

end Cert.ReferenceIdeal.Prefix

end
-- ==== Proof.RefRegion.lean ====
/- The arrays the reference's casts leave: the codes, the codes' values and the weights' values. -/
module

public import proofs.«01_k».proof.Proof.RefPrefixValue

@[expose] public section

set_option maxRecDepth 16384

noncomputable section

namespace Cert.ReferenceIdeal.Region

open Cert.ReferenceIdeal Cert.ReferenceIdeal.Gen Cert.Spec
open Idealize.ShloMosaic Idealize.ShloMosaic.TcCoe Idealize.ShloMosaic.ValueIdx Idealize.SL.Sem
open Idealize.ShloMosaic.Pipeline (Dat Cfg Window)

/-- The codes of a block, element by element. -/
theorem pay1_apply (x0 : Vec Ideal S1x6144x8192 .f32) (y : S1x6144x8192.Idx) : k0_pay1 (F := Ideal) x0 y = clip (x0 y) := by
  have hcast : shapeCast S1x6144x8192 x0 shapeCasts_S1x6144x8192_S1x6144x8192 y = x0 y := shapeCast_apply _ _ y y rfl
  unfold k0_pay1 clip
  rw [truncf_apply, minimumf_apply, maximumf_apply, hcast]
  rfl

theorem out2_apply (x0 : Vec Ideal S1x6144x8192 .f32) (x1 : Vec Ideal S8192x24576 .fp8e4m3) (y : S1x6144x8192.Idx) :
    out0_2 x0 x1 y = clip (x0 y) := by
  unfold out0_2
  rw [View.canon_unit_zero (S := S1x6144x8192) (by decide), View.ld_unit_zero (S := S1x6144x8192) (by decide)]
  exact pay1_apply x0 y

theorem out3_apply (x0 : Vec Ideal S1x6144x8192 .f32) (x1 : Vec Ideal S8192x24576 .fp8e4m3) (y : S1x6144x8192.Idx) :
    out0_3 x0 x1 y = clip (x0 y) := by
  unfold out0_3
  rw [View.canon_unit_zero (S := S1x6144x8192) (by decide), View.ld_unit_zero (S := S1x6144x8192) (by decide)]
  exact pay1_apply x0 y

theorem out4_apply (x0 : Vec Ideal S1x6144x8192 .f32) (x1 : Vec Ideal S8192x24576 .fp8e4m3) (y : S8192x24576.Idx) :
    (out0_4 x0 x1 y : EReal) = x1 y := by
  unfold out0_4
  rw [View.canon_unit_zero (S := S8192x24576) (by decide), View.ld_unit_zero (S := S8192x24576) (by decide)]
  rfl

/-- Every window's one block starts where its array does. -/
theorem places : ∀ t : Fin grid0.N,
    (win0_0.index t 0 * win0_0.size 0 = 0 ∧ win0_0.index t 1 * win0_0.size 1 = 0 ∧ win0_0.index t 2 * win0_0.size 2 = 0)
    ∧ (win0_1.index t 0 * win0_1.size 0 = 0 ∧ win0_1.index t 1 * win0_1.size 1 = 0)
    ∧ (win0_2.index t 0 * win0_2.size 0 = 0 ∧ win0_2.index t 1 * win0_2.size 1 = 0 ∧ win0_2.index t 2 * win0_2.size 2 = 0)
    ∧ (win0_3.index t 0 * win0_3.size 0 = 0 ∧ win0_3.index t 1 * win0_3.size 1 = 0 ∧ win0_3.index t 2 * win0_3.size 2 = 0)
    ∧ (win0_4.index t 0 * win0_4.size 0 = 0 ∧ win0_4.index t 1 * win0_4.size 1 = 0) := by
  decide +kernel

theorem extents : ∀ t : Fin grid0.N,
    (win0_2.xsize (grid0.coords t) 0 = 1 ∧ win0_2.xsize (grid0.coords t) 1 = 6144 ∧ win0_2.xsize (grid0.coords t) 2 = 8192)
    ∧ (win0_3.xsize (grid0.coords t) 0 = 1 ∧ win0_3.xsize (grid0.coords t) 1 = 6144 ∧ win0_3.xsize (grid0.coords t) 2 = 8192)
    ∧ (win0_4.xsize (grid0.coords t) 0 = 8192 ∧ win0_4.xsize (grid0.coords t) 1 = 24576) := by
  decide +kernel

variable (m : (ℓ : Loc nD τ sig) → Buf (Elt Ideal) ℓ) (c : Dev nD)

/-- The clipped activations. -/
def codesA : S1x6144x8192.Idx → EReal := fun i => clip ((Gen.V m c main_v41 : S1x6144x8192.Idx → EReal) i)
/-- The weights. -/
def weightsA : S8192x24576.Idx → EReal := fun i => (Gen.V m c main_arg2 : S8192x24576.Idx → EReal) i

theorem flushed2 (t : Fin cfg0.N) :
    (dats m 0 c).flushed 2 t = ((cfg0.win 2).blk t).view.read (Elt Ideal) (codesA m c) := by
  show (cfg0.win 2).cut (grid0.coords t) ((dats m 0 c).after 2 t) = _
  rw [after0_2]
  funext y
  obtain ⟨⟨a0, a1, a2⟩, -, ⟨e0, e1, e2⟩, -⟩ := places t
  refine (out2_apply _ _ _).trans ?_
  refine congrArg (fun i => clip ((Gen.V m c main_v41 : S1x6144x8192.Idx → EReal) i)) (funext fun x => Fin.ext ?_)
  match x with
  | ⟨0, _⟩ => show win0_0.index t 0 * win0_0.size 0 + 1 * (y 0).val = win0_2.index t 0 * win0_2.size 0 + 1 * (y 0).val; rw [a0, e0]
  | ⟨1, _⟩ => show win0_0.index t 1 * win0_0.size 1 + 1 * (y 1).val = win0_2.index t 1 * win0_2.size 1 + 1 * (y 1).val; rw [a1, e1]
  | ⟨2, _⟩ => show win0_0.index t 2 * win0_0.size 2 + 1 * (y 2).val = win0_2.index t 2 * win0_2.size 2 + 1 * (y 2).val; rw [a2, e2]

theorem flushed3 (t : Fin cfg0.N) :
    (dats m 0 c).flushed 3 t = ((cfg0.win 3).blk t).view.read (Elt Ideal) (codesA m c) := by
  show (cfg0.win 3).cut (grid0.coords t) ((dats m 0 c).after 3 t) = _
  rw [after0_3]
  funext y
  obtain ⟨⟨a0, a1, a2⟩, -, -, ⟨e0, e1, e2⟩, -⟩ := places t
  refine (out3_apply _ _ _).trans ?_
  refine congrArg (fun i => clip ((Gen.V m c main_v41 : S1x6144x8192.Idx → EReal) i)) (funext fun x => Fin.ext ?_)
  match x with
  | ⟨0, _⟩ => show win0_0.index t 0 * win0_0.size 0 + 1 * (y 0).val = win0_3.index t 0 * win0_3.size 0 + 1 * (y 0).val; rw [a0, e0]
  | ⟨1, _⟩ => show win0_0.index t 1 * win0_0.size 1 + 1 * (y 1).val = win0_3.index t 1 * win0_3.size 1 + 1 * (y 1).val; rw [a1, e1]
  | ⟨2, _⟩ => show win0_0.index t 2 * win0_0.size 2 + 1 * (y 2).val = win0_3.index t 2 * win0_3.size 2 + 1 * (y 2).val; rw [a2, e2]

theorem flushed4 (t : Fin cfg0.N) :
    (dats m 0 c).flushed 4 t = ((cfg0.win 4).blk t).view.read (Elt Ideal) (weightsA m c) := by
  show (cfg0.win 4).cut (grid0.coords t) ((dats m 0 c).after 4 t) = _
  rw [after0_4]
  funext y
  obtain ⟨-, ⟨a0, a1⟩, -, -, ⟨e0, e1⟩⟩ := places t
  refine (out4_apply _ _ _).trans ?_
  refine congrArg (Gen.V m c main_arg2 : S8192x24576.Idx → EReal) (funext fun x => Fin.ext ?_)
  match x with
  | ⟨0, _⟩ => show win0_1.index t 0 * win0_1.size 0 + 1 * (y 0).val = win0_4.index t 0 * win0_4.size 0 + 1 * (y 0).val; rw [a0, e0]
  | ⟨1, _⟩ => show win0_1.index t 1 * win0_1.size 1 + 1 * (y 1).val = win0_4.index t 1 * win0_4.size 1 + 1 * (y 1).val; rw [a1, e1]

theorem cover2 (i : S1x6144x8192.Idx) : ∃ t : Fin cfg0.N, (cfg0.win 2).flush t = true ∧ i ∈ ((cfg0.win 2).blk t).view.set := by
  have h0 : (i 0).val < 1 := (i 0).isLt
  have h1 : (i 1).val < 6144 := (i 1).isLt
  have h2 : (i 2).val < 8192 := (i 2).isLt
  refine ⟨t0_0, flush0_2 _, ?_⟩
  show i ∈ ((View.whole main_v42_0).slice (win0_2.rect t0_0)).set
  rw [View.set_slice_whole, Rect.mem_set_unit]
  obtain ⟨-, -, ⟨e0, e1, e2⟩, -⟩ := places t0_0
  obtain ⟨⟨f0, f1, f2⟩, -⟩ := extents t0_0
  intro a
  match a with
  | ⟨0, _⟩ =>
    show win0_2.index t0_0 0 * win0_2.size 0 ≤ (i 0).val ∧ (i 0).val < win0_2.index t0_0 0 * win0_2.size 0 + win0_2.xsize (grid0.coords t0_0) 0
    rw [e0, f0]; omega
  | ⟨1, _⟩ =>
    show win0_2.index t0_0 1 * win0_2.size 1 ≤ (i 1).val ∧ (i 1).val < win0_2.index t0_0 1 * win0_2.size 1 + win0_2.xsize (grid0.coords t0_0) 1
    rw [e1, f1]; omega
  | ⟨2, _⟩ =>
    show win0_2.index t0_0 2 * win0_2.size 2 ≤ (i 2).val ∧ (i 2).val < win0_2.index t0_0 2 * win0_2.size 2 + win0_2.xsize (grid0.coords t0_0) 2
    rw [e2, f2]; omega

theorem cover3 (i : S1x6144x8192.Idx) : ∃ t : Fin cfg0.N, (cfg0.win 3).flush t = true ∧ i ∈ ((cfg0.win 3).blk t).view.set := by
  have h0 : (i 0).val < 1 := (i 0).isLt
  have h1 : (i 1).val < 6144 := (i 1).isLt
  have h2 : (i 2).val < 8192 := (i 2).isLt
  refine ⟨t0_0, flush0_3 _, ?_⟩
  show i ∈ ((View.whole main_v42_1).slice (win0_3.rect t0_0)).set
  rw [View.set_slice_whole, Rect.mem_set_unit]
  obtain ⟨-, -, -, ⟨e0, e1, e2⟩, -⟩ := places t0_0
  obtain ⟨-, ⟨f0, f1, f2⟩, -⟩ := extents t0_0
  intro a
  match a with
  | ⟨0, _⟩ =>
    show win0_3.index t0_0 0 * win0_3.size 0 ≤ (i 0).val ∧ (i 0).val < win0_3.index t0_0 0 * win0_3.size 0 + win0_3.xsize (grid0.coords t0_0) 0
    rw [e0, f0]; omega
  | ⟨1, _⟩ =>
    show win0_3.index t0_0 1 * win0_3.size 1 ≤ (i 1).val ∧ (i 1).val < win0_3.index t0_0 1 * win0_3.size 1 + win0_3.xsize (grid0.coords t0_0) 1
    rw [e1, f1]; omega
  | ⟨2, _⟩ =>
    show win0_3.index t0_0 2 * win0_3.size 2 ≤ (i 2).val ∧ (i 2).val < win0_3.index t0_0 2 * win0_3.size 2 + win0_3.xsize (grid0.coords t0_0) 2
    rw [e2, f2]; omega

theorem cover4 (i : S8192x24576.Idx) : ∃ t : Fin cfg0.N, (cfg0.win 4).flush t = true ∧ i ∈ ((cfg0.win 4).blk t).view.set := by
  have h0 : (i 0).val < 8192 := (i 0).isLt
  have h1 : (i 1).val < 24576 := (i 1).isLt
  refine ⟨t0_0, flush0_4 _, ?_⟩
  show i ∈ ((View.whole main_v42_2).slice (win0_4.rect t0_0)).set
  rw [View.set_slice_whole, Rect.mem_set_unit]
  obtain ⟨-, -, -, -, ⟨e0, e1⟩⟩ := places t0_0
  obtain ⟨-, -, ⟨f0, f1⟩⟩ := extents t0_0
  intro a
  match a with
  | ⟨0, _⟩ =>
    show win0_4.index t0_0 0 * win0_4.size 0 ≤ (i 0).val ∧ (i 0).val < win0_4.index t0_0 0 * win0_4.size 0 + win0_4.xsize (grid0.coords t0_0) 0
    rw [e0, f0]; omega
  | ⟨1, _⟩ =>
    show win0_4.index t0_0 1 * win0_4.size 1 ≤ (i 1).val ∧ (i 1).val < win0_4.index t0_0 1 * win0_4.size 1 + win0_4.xsize (grid0.coords t0_0) 1
    rw [e1, f1]; omega

theorem arr2 : (dats m 0 c).arrAt 2 cfg0.N = codesA m c :=
  (dats m 0 c).arrAt_eq_of_cover 2 (codesA m c) (fun t _ => flushed2 m c t) cover2

theorem arr3 : (dats m 0 c).arrAt 3 cfg0.N = codesA m c :=
  (dats m 0 c).arrAt_eq_of_cover 3 (codesA m c) (fun t _ => flushed3 m c t) cover3

theorem arr4 : (dats m 0 c).arrAt 4 cfg0.N = weightsA m c :=
  (dats m 0 c).arrAt_eq_of_cover 4 (weightsA m c) (fun t _ => flushed4 m c t) cover4

/-- Each code is the mathematics' code. -/
theorem codes_eq (s : Fin 6144) (d : Fin 8192) : codesA m c (ix3 0 s d)
    = code (xRow (m ((c.tc : Thread nD τ).loc main_arg0)) s) (wRow (m ((c.tc : Thread nD τ).loc main_arg1))) d := by
  unfold codesA code
  rw [Prefix.read_v41]
  exact congrArg clip (Prefix.scaled_apply _ _ s d)

theorem weights_eq : weightsA m c = (m ((c.tc : Thread nD τ).loc main_arg2) : S8192x24576.Idx → EReal) := V_main_arg2 m c

end Cert.ReferenceIdeal.Region

end
-- ==== Proof.RefValue.lean ====
/- The reference's five results as functions of its arguments. -/
module

public import proofs.«01_k».proof.Proof.RefHeads
public import proofs.«01_k».proof.Proof.RefRegion

@[expose] public section

set_option maxRecDepth 16384

noncomputable section

namespace Cert.ReferenceIdeal.Result

open Cert.ReferenceIdeal Cert.ReferenceIdeal.Gen Cert.ReferenceIdeal.Read Cert.ReferenceIdeal.Tail Cert.Spec
open Idealize.ShloMosaic Idealize.ShloMosaic.TcCoe Idealize.ShloMosaic.ValueIdx Idealize.SL.Sem

/-! ## The heads, from arrays that hold the codes, the weights and the scales -/

section
variable (x : S1x6144x8192.Idx → EReal) (w : S8192.Idx → EReal) (wq : S8192x24576.Idx → EReal)
  (x3 : FVec Ideal S64x192 .f32) (x4 : IVec S1 32) (nw : FVec Ideal S128 .bf16)
  (r1 : FVec Ideal S1x6144x8192 .bf16) (e0 : FVec Ideal S1x6144x64 .f32)
  (hr : ∀ s d, (r1 (ix3 0 s d) : EReal) = code (xRow x s) (wRow w) d)
  (he : ∀ s g, (e0 (ix3 0 s g) : EReal) = xScale (xRow x s) (wRow w) g)

include hr he

theorem head_eq (s : Fin 6144) (n : Fin 192) (l : Fin 128) : headR x3 r1 wq e0 s n l = headOf x w wq x3 s n l := by
  unfold headR headOf
  refine congrArg (fun r : Fin 8192 → EReal => proj r _ _) (funext fun d => ?_)
  unfold xa
  exact congrArg₂ (fun a b : EReal => a * b) (hr s d) (he s (grp d))

/-- A turned result: the heads from `base` on, normalised and rotated. -/
theorem turned_eq (base : Nat) (hb : base ≤ 128) (X : FVec Ideal S1x6144x64x128 .f32)
    (hX : ∀ s h l, (X (ix4 0 s h l) : EReal) = headR x3 r1 wq e0 s ⟨base + h.val, by have := h.isLt; omega⟩ l)
    (s : Fin 6144) (h : Fin 64) (e : Fin 128) :
    (rotT (normT X nw) (val_main_v112 (F := Ideal) x4) (val_main_v114 (F := Ideal) x4) (ix4 0 s h e) : EReal)
      = outTurned x w wq x3 x4 nw base hb (ix4 0 s h e) := by
  have hp : ∀ l, (X (ix4 0 s h l) : EReal) = headOf x w wq x3 s ⟨base + h.val, by have := h.isLt; omega⟩ l :=
    fun l => (hX s h l).trans (head_eq x w wq x3 r1 e0 hr he s _ l)
  exact rotT_apply _ _ _ (x4 (ix1 0)) s h _ (fun e => normT_apply X nw s h _ hp e) (cos_apply x4 s) (sin_apply x4 s) e

theorem q_eq (s : Fin 6144) (h : Fin 64) (e : Fin 128) :
    (val_main_v141 (F := Ideal) x3 x4 nw r1 wq e0 (ix4 0 s h e) : EReal) = outTurned x w wq x3 x4 nw 0 (by decide) (ix4 0 s h e) :=
  turned_eq x w wq x3 x4 nw r1 e0 hr he 0 (by decide) (val_main_v57 (F := Ideal) x3 r1 wq e0)
    (fun s h l => heads_apply x3 r1 wq e0 0 0 rfl (by decide) slices_S1x6144x24576_S1x6144x8192_0_0_0 s h l) s h e

theorem k_eq (s : Fin 6144) (h : Fin 64) (e : Fin 128) :
    (val_main_v142 (F := Ideal) x3 x4 nw r1 wq e0 (ix4 0 s h e) : EReal) = outTurned x w wq x3 x4 nw 64 (by decide) (ix4 0 s h e) :=
  turned_eq x w wq x3 x4 nw r1 e0 hr he 64 (by decide) (val_main_v59 (F := Ideal) x3 r1 wq e0)
    (fun s h l => heads_apply x3 r1 wq e0 64 8192 rfl (by decide) slices_S1x6144x24576_S1x6144x8192_0_0_8192 s h l) s h e

theorem v_eq (s : Fin 6144) (h : Fin 64) (e : Fin 128) :
    (val_main_v143 (F := Ideal) x3 r1 wq e0 (ix4 0 s h e) : EReal) = outPlain x w wq x3 (ix4 0 s h e) :=
  (heads_apply x3 r1 wq e0 128 16384 rfl (by decide) slices_S1x6144x24576_S1x6144x8192_0_0_16384 s h e).trans
    (head_eq x w wq x3 r1 e0 hr he s _ e)
end

/-! ## Whole arrays from their elements -/

theorem ext4 {f g : S1x6144x64x128.Idx → EReal} (h : ∀ s h e, f (ix4 0 s h e) = g (ix4 0 s h e)) : f = g := by
  funext i
  have hi : i = ix4 0 (i 1) (i 2) (i 3) := funext fun a => by
    match a with
    | ⟨0, _⟩ => exact Fin.ext (by have : (i 0).val < 1 := (i 0).isLt; show (i 0).val = 0; omega)
    | ⟨1, _⟩ => rfl
    | ⟨2, _⟩ => rfl
    | ⟨3, _⟩ => rfl
  exact (congrArg f hi).trans ((h _ _ _).trans (congrArg g hi).symm)

theorem ext3 {n : Nat} {f g : (⟨3, ![1, 6144, n]⟩ : Shape).Idx → EReal} (h : ∀ s d, f (ix3 0 s d) = g (ix3 0 s d)) : f = g := by
  funext i
  have hi : i = ix3 0 (i 1) (i 2) := funext fun a => by
    match a with
    | ⟨0, _⟩ => exact Fin.ext (by have : (i 0).val < 1 := (i 0).isLt; show (i 0).val = 0; omega)
    | ⟨1, _⟩ => rfl
    | ⟨2, _⟩ => rfl
  exact (congrArg f hi).trans ((h _ _).trans (congrArg g hi).symm)

/-! ## The results -/

variable (m : (ℓ : Loc nD τ sig) → Buf (Elt Ideal) ℓ) (c : Dev nD)

/-- The seven arguments. -/
abbrev a0 : S1x6144x8192.Idx → EReal := m ((c.tc : Thread nD τ).loc main_arg0)
abbrev a1 : S8192.Idx → EReal := m ((c.tc : Thread nD τ).loc main_arg1)
abbrev a2 : S8192x24576.Idx → EReal := m ((c.tc : Thread nD τ).loc main_arg2)
abbrev a3 : S64x192.Idx → EReal := m ((c.tc : Thread nD τ).loc main_arg3)
abbrev a4 : S1.Idx → BitVec 32 := m ((c.tc : Thread nD τ).loc main_arg4)
abbrev a5 : S128.Idx → EReal := m ((c.tc : Thread nD τ).loc main_arg5)
abbrev a6 : S128.Idx → EReal := m ((c.tc : Thread nD τ).loc main_arg6)

theorem at_arg3 : Value.exitV m c (Proc.devRef .tc main_arg3) = a3 m c := Value.exit_main_arg3 m c
theorem at_arg4 : Value.exitV m c (Proc.devRef .tc main_arg4) = a4 m c := Value.exit_main_arg4 m c
theorem at_arg5 : Value.exitV m c (Proc.devRef .tc main_arg5) = a5 m c := Value.exit_main_arg5 m c
theorem at_arg6 : Value.exitV m c (Proc.devRef .tc main_arg6) = a6 m c := Value.exit_main_arg6 m c
theorem at_codes : Value.exitV m c (Proc.devRef .tc main_v42_1) = Region.codesA m c :=
  (Value.exit_main_v42_1 m c).trans (Region.arr3 m c)
theorem at_weights : Value.exitV m c (Proc.devRef .tc main_v42_2) = a2 m c :=
  (Value.exit_main_v42_2 m c).trans ((Region.arr4 m c).trans (Region.weights_eq m c))
theorem at_scales : Value.exitV m c (Proc.devRef .tc main_v35) = Prefix.scaleT (a0 m c) (a1 m c) := Prefix.read_v35 m c

theorem res_q : val_main_v141 (F := Ideal) (Value.exitV m c (Proc.devRef .tc main_arg3)) (Value.exitV m c (Proc.devRef .tc main_arg4))
      (Value.exitV m c (Proc.devRef .tc main_arg5)) (Value.exitV m c (Proc.devRef .tc main_v42_1))
      (Value.exitV m c (Proc.devRef .tc main_v42_2)) (Value.exitV m c (Proc.devRef .tc main_v35))
    = outTurned (a0 m c) (a1 m c) (a2 m c) (a3 m c) (a4 m c) (a5 m c) 0 (by decide) := by
  rw [at_arg3, at_arg4, at_arg5, at_codes, at_weights, at_scales]
  exact ext4 (q_eq (a0 m c) (a1 m c) (a2 m c) _ _ _ _ _ (Region.codes_eq m c) (Prefix.scale_apply _ _))

theorem res_k : val_main_v142 (F := Ideal) (Value.exitV m c (Proc.devRef .tc main_arg3)) (Value.exitV m c (Proc.devRef .tc main_arg4))
      (Value.exitV m c (Proc.devRef .tc main_arg6)) (Value.exitV m c (Proc.devRef .tc main_v42_1))
      (Value.exitV m c (Proc.devRef .tc main_v42_2)) (Value.exitV m c (Proc.devRef .tc main_v35))
    = outTurned (a0 m c) (a1 m c) (a2 m c) (a3 m c) (a4 m c) (a6 m c) 64 (by decide) := by
  rw [at_arg3, at_arg4, at_arg6, at_codes, at_weights, at_scales]
  exact ext4 (k_eq (a0 m c) (a1 m c) (a2 m c) _ _ _ _ _ (Region.codes_eq m c) (Prefix.scale_apply _ _))

theorem res_v : val_main_v143 (F := Ideal) (Value.exitV m c (Proc.devRef .tc main_arg3)) (Value.exitV m c (Proc.devRef .tc main_v42_1))
      (Value.exitV m c (Proc.devRef .tc main_v42_2)) (Value.exitV m c (Proc.devRef .tc main_v35))
    = outPlain (a0 m c) (a1 m c) (a2 m c) (a3 m c) := by
  rw [at_arg3, at_codes, at_weights, at_scales]
  exact ext4 (v_eq (a0 m c) (a1 m c) (a2 m c) _ _ _ (Region.codes_eq m c) (Prefix.scale_apply _ _))

theorem res_codes : Value.reg_main_v42_0 m c = outCodes (a0 m c) (a1 m c) :=
  (Region.arr2 m c).trans (ext3 (Region.codes_eq m c))

theorem res_scales : Prefix.scaleT (a0 m c) (a1 m c) = outScales (a0 m c) (a1 m c) :=
  ext3 (Prefix.scale_apply _ _)

/-- The reference's run: each result holds its function of the arguments, and the arguments end unchanged. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v141) = outTurned (a0 m c) (a1 m c) (a2 m c) (a3 m c) (a4 m c) (a5 m c) 0 (by decide)
      ∧ r.2.mem ((c.tc : Thread nD τ).loc main_v142) = outTurned (a0 m c) (a1 m c) (a2 m c) (a3 m c) (a4 m c) (a6 m c) 64 (by decide)
      ∧ r.2.mem ((c.tc : Thread nD τ).loc main_v143) = outPlain (a0 m c) (a1 m c) (a2 m c) (a3 m c)
      ∧ r.2.mem ((c.tc : Thread nD τ).loc main_v42_0) = outCodes (a0 m c) (a1 m c)
      ∧ r.2.mem ((c.tc : Thread nD τ).loc main_v35) = outScales (a0 m c) (a1 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run (defs (F := Ideal)) _ _).mono (fun _ h c => by
    obtain ⟨hq, hk, hv, hc, hs, hargs⟩ := h c
    exact ⟨(hq.trans (val_main_v141_eq (Value.exitV m c))).trans (res_q m c), (hk.trans (val_main_v142_eq (Value.exitV m c))).trans (res_k m c),
      (hv.trans (val_main_v143_eq (Value.exitV m c))).trans (res_v m c), hc.trans (res_codes m c),
      (hs.trans (Value.exit_main_v35 m c).symm).trans ((at_scales m c).trans (res_scales m c)), hargs⟩) (Value.run m ρ)

end Cert.ReferenceIdeal.Result

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_finite_weights
public import proofs.«01_k».proof.Proof.Gen.ReferenceIdeal.Read
public import proofs.«01_k».proof.Proof.Gen.ReferenceIdeal.Run
public import proofs.«01_k».proof.Proof.KernelRun
public import proofs.«01_k».proof.Proof.Precondition
public import proofs.«01_k».proof.Proof.RefValue
public import Idealize.ShloMosaic.Adequacy
public import Idealize.ShloMosaic.Init

@[expose] public section

noncomputable section

namespace Cert.Proof

open Idealize.ShloMosaic Idealize.SL.Sem Cert.Spec

/-- Kernel and reference end with the same five results: both are the same functions of the seven arguments. -/
theorem algebraic : @Cert.algebraic_KernelIdeal_ReferenceIdeal_pre_finite_weights Cert.KernelIdeal.Gen.facts
    Cert.ReferenceIdeal.Gen.facts Cert.Pre_finite_weights.Gen.facts := by
  intro m g m' g' hpre hargs
  have hw : ∀ c d, mag (Cert.KernelIdeal.Value.a1 m c (ValueIdx.ix1 d)) ≤ wMax := @Cert.Weights.bounded Cert.Pre_finite_weights.Gen.facts m hpre
  refine ⟨fun c => Cert.KernelIdeal.Gen.W5 m g c (Proc.devRef .tc Cert.KernelIdeal.main_v38),
    fun c => Cert.KernelIdeal.Gen.W5 m g c (Proc.devRef .tc Cert.KernelIdeal.main_v40),
    fun c => Cert.KernelIdeal.Gen.W5 m g c (Proc.devRef .tc Cert.KernelIdeal.main_v42),
    fun c => Cert.KernelIdeal.Gen.W5 m g c (Proc.devRef .tc Cert.KernelIdeal.main_v43),
    fun c => Cert.KernelIdeal.Gen.W5 m g c (Proc.devRef .tc Cert.KernelIdeal.main_v44),
    Cert.KernelIdeal.Run.run m g, ?_⟩
  refine (θ_run (Cert.ReferenceIdeal.defs (F := Ideal)) _ _).mono (fun _ h c => ?_) (Cert.ReferenceIdeal.Result.run m' g')
  obtain ⟨hq, hk, hv, hc, hs, rest⟩ := h c
  obtain ⟨e0, e1, e2, e3, e4, e5, e6⟩ := hargs c
  have e0 : Cert.ReferenceIdeal.Result.a0 m' c = Cert.KernelIdeal.Value.a0 m c := e0
  have e1 : Cert.ReferenceIdeal.Result.a1 m' c = Cert.KernelIdeal.Value.a1 m c := e1
  have e2 : Cert.ReferenceIdeal.Result.a2 m' c = Cert.KernelIdeal.Value.a2 m c := e2
  have e3 : Cert.ReferenceIdeal.Result.a3 m' c = Cert.KernelIdeal.Value.a3 m c := e3
  have e4 : Cert.ReferenceIdeal.Result.a4 m' c = Cert.KernelIdeal.Value.a4 m c := e4
  have e5 : Cert.ReferenceIdeal.Result.a5 m' c = Cert.KernelIdeal.Value.a5 m c := e5
  have e6 : Cert.ReferenceIdeal.Result.a6 m' c = Cert.KernelIdeal.Value.a6 m c := e6
  rw [e0, e1, e2, e3, e4, e5] at hq
  rw [e0, e1, e2, e3, e4, e6] at hk
  rw [e0, e1, e2, e3] at hv
  rw [e0, e1] at hc hs
  exact ⟨hq.trans (Cert.KernelIdeal.Value.res_q m g c (hw c)).symm, hk.trans (Cert.KernelIdeal.Value.res_k m g c (hw c)).symm,
    hv.trans (Cert.KernelIdeal.Value.res_v m g c (hw c)).symm, hc.trans (Cert.KernelIdeal.Value.res_codes m g c (hw c)).symm,
    hs.trans (Cert.KernelIdeal.Value.res_scales m g c (hw c)).symm, rest⟩

theorem claim : Cert.Claim := ⟨Cert.Kernel.Gen.facts, Cert.KernelIdeal.Gen.facts, Cert.ReferenceIdeal.Gen.facts, Cert.Pre_finite_weights.Gen.facts,
  fun m ρ _ => Cert.Kernel.Gen.frame m ρ,
  fun m ρ _ => Cert.KernelIdeal.Gen.frame m ρ,
  fun m ρ _ => Cert.KernelIdeal.Gen.frame m ρ,
  fun m ρ _ => Cert.ReferenceIdeal.Gen.frame m ρ,
  fun m ρ _ => Cert.ReferenceIdeal.Gen.frame m ρ,
  trivial,
  algebraic⟩

end Cert.Proof

end
